-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v497) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x1024 : Shape := ⟨2, ![8192, 1024]⟩
abbrev S1023x1024 : Shape := ⟨2, ![1023, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1023x1024 : S_.BroadcastsInDim S1023x1024 (![] : Fin 0 → Fin S1023x1024.rank)
  reducesTo_S1023x1024_S_d0_1 : S1023x1024.ReducesTo [0, 1] S_

variable [Facts]

def fn {F : FTy → Type} [FloatOps F] (main_arg0 : FVec F S8192x1024 .f32) (main_arg1 : FVec F S1023x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1023x1024 .f32 := Host.absf main_arg1
  let main_cst_0 : FVec F S_ .f32 := constant S_ .f32 0x7F800000#32
  let main_v5 : FVec F S1023x1024 .f32 := broadcastInDim S1023x1024 ![] bcast_S_S1023x1024 main_cst_0
  let main_v6 : IVec S1023x1024 1 := cmpf .olt main_v4 main_v5
  let main_c_1 : IVec S_ 1 := constantI S_ 1 1#1
  let main_v7 : IVec S_ 1 := (fun x v => Host.reduce IntOp.andi x v reducesTo_S1023x1024_S_d0_1 h_S_) main_v6 main_c_1
  let main_v8 : IVec S_ 1 := andi main_v3 main_v7
  main_v8
-- ==== Kernel.lean ====
abbrev S8192x1024 : Shape := ⟨2, ![8192, 1024]⟩
abbrev S1023x1024 : Shape := ⟨2, ![1023, 1024]⟩
abbrev S2048 : Shape := ⟨1, ![2048]⟩
abbrev S2048x1 : Shape := ⟨2, ![2048, 1]⟩
abbrev S_ : Shape := ⟨0, ![]⟩
abbrev S2048x1024 : Shape := ⟨2, ![2048, 1024]⟩
abbrev S1024x2048 : Shape := ⟨2, ![1024, 2048]⟩
abbrev S8192x2047 : Shape := ⟨2, ![8192, 2047]⟩
abbrev S1024x1024 : Shape := ⟨2, ![1024, 1024]⟩
abbrev S1024x2047 : Shape := ⟨2, ![1024, 2047]⟩
abbrev S1024x1 : Shape := ⟨2, ![1024, 1]⟩
abbrev S1024x2 : Shape := ⟨2, ![1024, 2]⟩
abbrev S1x2 : Shape := ⟨2, ![1, 2]⟩
abbrev S1024x4 : Shape := ⟨2, ![1024, 4]⟩
abbrev S2x4 : Shape := ⟨2, ![2, 4]⟩
abbrev S1024x3 : Shape := ⟨2, ![1024, 3]⟩
abbrev S1024x8 : Shape := ⟨2, ![1024, 8]⟩
abbrev S4x8 : Shape := ⟨2, ![4, 8]⟩
abbrev S1024x7 : Shape := ⟨2, ![1024, 7]⟩
abbrev S1024x16 : Shape := ⟨2, ![1024, 16]⟩
abbrev S8x16 : Shape := ⟨2, ![8, 16]⟩
abbrev S1024x15 : Shape := ⟨2, ![1024, 15]⟩
abbrev S1024x32 : Shape := ⟨2, ![1024, 32]⟩
abbrev S16x32 : Shape := ⟨2, ![16, 32]⟩
abbrev S1024x31 : Shape := ⟨2, ![1024, 31]⟩
abbrev S1024x64 : Shape := ⟨2, ![1024, 64]⟩
abbrev S32x64 : Shape := ⟨2, ![32, 64]⟩
abbrev S1024x63 : Shape := ⟨2, ![1024, 63]⟩
abbrev S1024x128 : Shape := ⟨2, ![1024, 128]⟩
abbrev S64x128 : Shape := ⟨2, ![64, 128]⟩
abbrev S1024x127 : Shape := ⟨2, ![1024, 127]⟩
abbrev S1024x256 : Shape := ⟨2, ![1024, 256]⟩
abbrev S128x256 : Shape := ⟨2, ![128, 256]⟩
abbrev S1024x255 : Shape := ⟨2, ![1024, 255]⟩
abbrev S1024x512 : Shape := ⟨2, ![1024, 512]⟩
abbrev S256x512 : Shape := ⟨2, ![256, 512]⟩
abbrev S1024x511 : Shape := ⟨2, ![1024, 511]⟩
abbrev S512x1024 : Shape := ⟨2, ![512, 1024]⟩
abbrev S1024x1023 : Shape := ⟨2, ![1024, 1023]⟩

abbrev nBuf : Space → Nat
  | .hbm => 16
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1023x1024, .f32⟩
  | .hbm, ⟨2, _⟩ => ⟨S2048, .i32⟩
  | .hbm, ⟨3, _⟩ => ⟨S2048, .i1⟩
  | .hbm, ⟨4, _⟩ => ⟨S2048, .f32⟩
  | .hbm, ⟨5, _⟩ => ⟨S2048x1, .f32⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S1024x2048, .f32⟩
  | .hbm, ⟨15, _⟩ => ⟨S8192x2047, .f32⟩
  | .local _ .vmem, ⟨0, _⟩ => ⟨S1024x1024, .f32⟩
  | .local _ .vmem, ⟨1, _⟩ => ⟨S1024x1024, .f32⟩
  | .local _ .vmem, ⟨2, _⟩ => ⟨S1024x2048, .f32⟩
  | .local _ .vmem, ⟨3, _⟩ => ⟨S1024x2047, .f32⟩
  | .local _ .vmem, ⟨4, _⟩ => ⟨S1024x2047, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_c_0 : Ref sig .tc := ⟨.hbm, 3, rfl⟩
abbrev main_call0_cst : Ref sig .tc := ⟨.hbm, 4, rfl⟩
abbrev main_call0_v0 : Ref sig .tc := ⟨.hbm, 5, rfl⟩
abbrev main_call0_c_1 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2047 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x1024 : Shape := ⟨2, ![8192, 1024]⟩
abbrev S1023x1024 : Shape := ⟨2, ![1023, 1024]⟩
abbrev S1023 : Shape := ⟨1, ![1023]⟩
abbrev S_ : Shape := ⟨0, ![]⟩
abbrev S1024x1023 : Shape := ⟨2, ![1024, 1023]⟩
abbrev S8192x1023 : Shape := ⟨2, ![8192, 1023]⟩
abbrev S8192x2047 : Shape := ⟨2, ![8192, 2047]⟩
abbrev S1023x1 : Shape := ⟨2, ![1023, 1]⟩

abbrev nBuf : Space → Nat
  | .hbm => 644
  | .vmem => 0
  | .smem => 0
  | _ => 0

abbrev hbmTy0_0 (i : Nat) : BufTy := match i % 128 with
  | 0 => ⟨S8192x1024, .f32⟩
  | 1 => ⟨S1023x1024, .f32⟩
  | 2 => ⟨S1023, .i32⟩
  | 3 => ⟨S_, .i32⟩
  | 4 => ⟨S1023, .i32⟩
  | 5 => ⟨S1023, .i32⟩
  | 6 => ⟨S_, .i32⟩
  | 7 => ⟨S1023, .i32⟩
  | 8 => ⟨S1023, .i32⟩
  | 9 => ⟨S_, .i32⟩
  | 10 => ⟨S1023, .i32⟩
  | 11 => ⟨S1023, .i32⟩
  | 12 => ⟨S_, .i32⟩
  | 13 => ⟨S1023, .i32⟩
  | 14 => ⟨S1023, .i32⟩
  | 15 => ⟨S1024x1023, .f32⟩
  | 16 => ⟨S8192x1023, .f32⟩
  | 17 => ⟨S_, .f32⟩
  | 18 => ⟨S8192x2047, .f32⟩
  | 19 => ⟨S_, .i32⟩
  | 20 => ⟨S1023, .i32⟩
  | 21 => ⟨S1023, .i1⟩
  | 22 => ⟨S_, .i32⟩
  | 23 => ⟨S1023, .i32⟩
  | 24 => ⟨S1023, .i32⟩
  | 25 => ⟨S1023, .i32⟩
  | 26 => ⟨S1023x1, .i32⟩
  | 27 => ⟨S8192x1023, .f32⟩
  | 28 => ⟨S_, .i32⟩
  | 29 => ⟨S1023, .i32⟩
  | 30 => ⟨S1023, .i1⟩
  | 31 => ⟨S_, .i32⟩
  | 32 => ⟨S1023, .i32⟩
  | 33 => ⟨S1023, .i32⟩
  | 34 => ⟨S1023, .i32⟩
  | 35 => ⟨S1023x1, .i32⟩
  | 36 => ⟨S8192x1023, .f32⟩
  | 37 => ⟨S8192x1023, .f32⟩
  | 38 => ⟨S_, .i32⟩
  | 39 => ⟨S1023, .i32⟩
  | 40 => ⟨S1023, .i1⟩
  | 41 => ⟨S_, .i32⟩
  | 42 => ⟨S1023, .i32⟩
  | 43 => ⟨S1023, .i32⟩
  | 44 => ⟨S1023, .i32⟩
  | 45 => ⟨S1023x1, .i32⟩
  | 46 => ⟨S8192x2047, .f32⟩
  | 47 => ⟨S_, .i32⟩
  | 48 => ⟨S1023, .i32⟩
  | 49 => ⟨S1023, .i1⟩
  | 50 => ⟨S_, .i32⟩
  | 51 => ⟨S1023, .i32⟩
  | 52 => ⟨S1023, .i32⟩
  | 53 => ⟨S1023, .i32⟩
  | 54 => ⟨S1023x1, .i32⟩
  | 55 => ⟨S8192x1023, .f32⟩
  | 56 => ⟨S_, .i32⟩
  | 57 => ⟨S1023, .i32⟩
  | 58 => ⟨S1023, .i1⟩
  | 59 => ⟨S_, .i32⟩
  | 60 => ⟨S1023, .i32⟩
  | 61 => ⟨S1023, .i32⟩
  | 62 => ⟨S1023, .i32⟩
  | 63 => ⟨S1023x1, .i32⟩
  | 64 => ⟨S8192x1023, .f32⟩
  | 65 => ⟨S8192x1023, .f32⟩
  | 66 => ⟨S8192x1023, .f32⟩
  | 67 => ⟨S_, .i32⟩
  | 68 => ⟨S1023, .i32⟩
  | 69 => ⟨S1023, .i1⟩
  | 70 => ⟨S_, .i32⟩
  | 71 => ⟨S1023, .i32⟩
  | 72 => ⟨S1023, .i32⟩
  | 73 => ⟨S1023, .i32⟩
  | 74 => ⟨S1023x1, .i32⟩
  | 75 => ⟨S8192x2047, .f32⟩
  | 76 => ⟨S_, .i32⟩
  | 77 => ⟨S1023, .i32⟩
  | 78 => ⟨S1023, .i1⟩
  | 79 => ⟨S_, .i32⟩
  | 80 => ⟨S1023, .i32⟩
  | 81 => ⟨S1023, .i32⟩
  | 82 => ⟨S1023, .i32⟩
  | 83 => ⟨S1023x1, .i32⟩
  | 84 => ⟨S8192x1023, .f32⟩
  | 85 => ⟨S_, .i32⟩
  | 86 => ⟨S1023, .i32⟩
  | 87 => ⟨S1023, .i1⟩
  | 88 => ⟨S_, .i32⟩
  | 89 => ⟨S1023, .i32⟩
  | 90 => ⟨S1023, .i32⟩
  | 91 => ⟨S1023, .i32⟩
  | 92 => ⟨S1023x1, .i32⟩
  | 93 => ⟨S8192x1023, .f32⟩
  | 94 => ⟨S8192x1023, .f32⟩
  | 95 => ⟨S_, .i32⟩
  | 96 => ⟨S1023, .i32⟩
  | 97 => ⟨S1023, .i1⟩
  | 98 => ⟨S_, .i32⟩
  | 99 => ⟨S1023, .i32⟩
  | 100 => ⟨S1023, .i32⟩
  | 101 => ⟨S1023, .i32⟩
  | 102 => ⟨S1023x1, .i32⟩
  | 103 => ⟨S8192x2047, .f32⟩
  | 104 => ⟨S_, .i32⟩
  | 105 => ⟨S1023, .i32⟩
  | 106 => ⟨S1023, .i1⟩
  | 107 => ⟨S_, .i32⟩
  | 108 => ⟨S1023, .i32⟩
  | 109 => ⟨S1023, .i32⟩
  | 110 => ⟨S1023, .i32⟩
  | 111 => ⟨S1023x1, .i32⟩
  | 112 => ⟨S8192x1023, .f32⟩
  | 113 => ⟨S_, .i32⟩
  | 114 => ⟨S1023, .i32⟩
  | 115 => ⟨S1023, .i1⟩
  | 116 => ⟨S_, .i32⟩
  | 117 => ⟨S1023, .i32⟩
  | 118 => ⟨S1023, .i32⟩
  | 119 => ⟨S1023, .i32⟩
  | 120 => ⟨S1023x1, .i32⟩
  | 121 => ⟨S8192x1023, .f32⟩
  | 122 => ⟨S8192x1023, .f32⟩
  | 123 => ⟨S_, .i32⟩
  | 124 => ⟨S1023, .i32⟩
  | 125 => ⟨S1023, .i1⟩
  | 126 => ⟨S_, .i32⟩
  | 127 => ⟨S1023, .i32⟩
  | _ => ⟨S8192x1024, .f32⟩

abbrev hbmTy0_1 (i : Nat) : BufTy := match i % 128 with
  | 0 => ⟨S1023, .i32⟩
  | 1 => ⟨S1023, .i32⟩
  | 2 => ⟨S1023x1, .i32⟩
  | 3 => ⟨S8192x2047, .f32⟩
  | 4 => ⟨S_, .i32⟩
  | 5 => ⟨S1023, .i32⟩
  | 6 => ⟨S1023, .i1⟩
  | 7 => ⟨S_, .i32⟩
  | 8 => ⟨S1023, .i32⟩
  | 9 => ⟨S1023, .i32⟩
  | 10 => ⟨S1023, .i32⟩
  | 11 => ⟨S1023x1, .i32⟩
  | 12 => ⟨S8192x1023, .f32⟩
  | 13 => ⟨S_, .i32⟩
  | 14 => ⟨S1023, .i32⟩
  | 15 => ⟨S1023, .i1⟩
  | 16 => ⟨S_, .i32⟩
  | 17 => ⟨S1023, .i32⟩
  | 18 => ⟨S1023, .i32⟩
  | 19 => ⟨S1023, .i32⟩
  | 20 => ⟨S1023x1, .i32⟩
  | 21 => ⟨S8192x1023, .f32⟩
  | 22 => ⟨S8192x1023, .f32⟩
  | 23 => ⟨S_, .i32⟩
  | 24 => ⟨S1023, .i32⟩
  | 25 => ⟨S1023, .i1⟩
  | 26 => ⟨S_, .i32⟩
  | 27 => ⟨S1023, .i32⟩
  | 28 => ⟨S1023, .i32⟩
  | 29 => ⟨S1023, .i32⟩
  | 30 => ⟨S1023x1, .i32⟩
  | 31 => ⟨S8192x2047, .f32⟩
  | 32 => ⟨S_, .i32⟩
  | 33 => ⟨S1023, .i32⟩
  | 34 => ⟨S1023, .i1⟩
  | 35 => ⟨S_, .i32⟩
  | 36 => ⟨S1023, .i32⟩
  | 37 => ⟨S1023, .i32⟩
  | 38 => ⟨S1023, .i32⟩
  | 39 => ⟨S1023x1, .i32⟩
  | 40 => ⟨S8192x1023, .f32⟩
  | 41 => ⟨S_, .i32⟩
  | 42 => ⟨S1023, .i32⟩
  | 43 => ⟨S1023, .i1⟩
  | 44 => ⟨S_, .i32⟩
  | 45 => ⟨S1023, .i32⟩
  | 46 => ⟨S1023, .i32⟩
  | 47 => ⟨S1023, .i32⟩
  | 48 => ⟨S1023x1, .i32⟩
  | 49 => ⟨S8192x1023, .f32⟩
  | 50 => ⟨S8192x1023, .f32⟩
  | 51 => ⟨S_, .i32⟩
  | 52 => ⟨S1023, .i32⟩
  | 53 => ⟨S1023, .i1⟩
  | 54 => ⟨S_, .i32⟩
  | 55 => ⟨S1023, .i32⟩
  | 56 => ⟨S1023, .i32⟩
  | 57 => ⟨S1023, .i32⟩
  | 58 => ⟨S1023x1, .i32⟩
  | 59 => ⟨S8192x2047, .f32⟩
  | 60 => ⟨S_, .i32⟩
  | 61 => ⟨S1023, .i32⟩
  | 62 => ⟨S1023, .i1⟩
  | 63 => ⟨S_, .i32⟩
  | 64 => ⟨S1023, .i32⟩
  | 65 => ⟨S1023, .i32⟩
  | 66 => ⟨S1023, .i32⟩
  | 67 => ⟨S1023x1, .i32⟩
  | 68 => ⟨S8192x1023, .f32⟩
  | 69 => ⟨S_, .i32⟩
  | 70 => ⟨S1023, .i32⟩
  | 71 => ⟨S1023, .i1⟩
  | 72 => ⟨S_, .i32⟩
  | 73 => ⟨S1023, .i32⟩
  | 74 => ⟨S1023, .i32⟩
  | 75 => ⟨S1023, .i32⟩
  | 76 => ⟨S1023x1, .i32⟩
  | 77 => ⟨S8192x1023, .f32⟩
  | 78 => ⟨S8192x1023, .f32⟩
  | 79 => ⟨S_, .i32⟩
  | 80 => ⟨S1023, .i32⟩
  | 81 => ⟨S1023, .i1⟩
  | 82 => ⟨S_, .i32⟩
  | 83 => ⟨S1023, .i32⟩
  | 84 => ⟨S1023, .i32⟩
  | 85 => ⟨S1023, .i32⟩
  | 86 => ⟨S1023x1, .i32⟩
  | 87 => ⟨S8192x2047, .f32⟩
  | 88 => ⟨S_, .i32⟩
  | 89 => ⟨S1023, .i32⟩
  | 90 => ⟨S1023, .i1⟩
  | 91 => ⟨S_, .i32⟩
  | 92 => ⟨S1023, .i32⟩
  | 93 => ⟨S1023, .i32⟩
  | 94 => ⟨S1023, .i32⟩
  | 95 => ⟨S1023x1, .i32⟩
  | 96 => ⟨S8192x1023, .f32⟩
  | 97 => ⟨S_, .i32⟩
  | 98 => ⟨S1023, .i32⟩
  | 99 => ⟨S1023, .i1⟩
  | 100 => ⟨S_, .i32⟩
  | 101 => ⟨S1023, .i32⟩
  | 102 => ⟨S1023, .i32⟩
  | 103 => ⟨S1023, .i32⟩
  | 104 => ⟨S1023x1, .i32⟩
  | 105 => ⟨S8192x1023, .f32⟩
  | 106 => ⟨S8192x1023, .f32⟩
  | 107 => ⟨S_, .i32⟩
  | 108 => ⟨S1023, .i32⟩
  | 109 => ⟨S1023, .i1⟩
  | 110 => ⟨S_, .i32⟩
  | 111 => ⟨S1023, .i32⟩
  | 112 => ⟨S1023, .i32⟩
  | 113 => ⟨S1023, .i32⟩
  | 114 => ⟨S1023x1, .i32⟩
  | 115 => ⟨S8192x2047, .f32⟩
  | 116 => ⟨S_, .i32⟩
  | 117 => ⟨S1023, .i32⟩
  | 118 => ⟨S1023, .i1⟩
  | 119 => ⟨S_, .i32⟩
  | 120 => ⟨S1023, .i32⟩
  | 121 => ⟨S1023, .i32⟩
  | 122 => ⟨S1023, .i32⟩
  | 123 => ⟨S1023x1, .i32⟩
  | 124 => ⟨S8192x1023, .f32⟩
  | 125 => ⟨S_, .i32⟩
  | 126 => ⟨S1023, .i32⟩
  | 127 => ⟨S1023, .i1⟩
  | _ => ⟨S8192x1024, .f32⟩

abbrev hbmTy0_2 (i : Nat) : BufTy := match i % 128 with
  | 0 => ⟨S_, .i32⟩
  | 1 => ⟨S1023, .i32⟩
  | 2 => ⟨S1023, .i32⟩
  | 3 => ⟨S1023, .i32⟩
  | 4 => ⟨S1023x1, .i32⟩
  | 5 => ⟨S8192x1023, .f32⟩
  | 6 => ⟨S8192x1023, .f32⟩
  | 7 => ⟨S_, .i32⟩
  | 8 => ⟨S1023, .i32⟩
  | 9 => ⟨S1023, .i1⟩
  | 10 => ⟨S_, .i32⟩
  | 11 => ⟨S1023, .i32⟩
  | 12 => ⟨S1023, .i32⟩
  | 13 => ⟨S1023, .i32⟩
  | 14 => ⟨S1023x1, .i32⟩
  | 15 => ⟨S8192x2047, .f32⟩
  | 16 => ⟨S_, .i32⟩
  | 17 => ⟨S1023, .i32⟩
  | 18 => ⟨S1023, .i1⟩
  | 19 => ⟨S_, .i32⟩
  | 20 => ⟨S1023, .i32⟩
  | 21 => ⟨S1023, .i32⟩
  | 22 => ⟨S1023, .i32⟩
  | 23 => ⟨S1023x1, .i32⟩
  | 24 => ⟨S8192x1023, .f32⟩
  | 25 => ⟨S_, .i32⟩
  | 26 => ⟨S1023, .i32⟩
  | 27 => ⟨S1023, .i1⟩
  | 28 => ⟨S_, .i32⟩
  | 29 => ⟨S1023, .i32⟩
  | 30 => ⟨S1023, .i32⟩
  | 31 => ⟨S1023, .i32⟩
  | 32 => ⟨S1023x1, .i32⟩
  | 33 => ⟨S8192x1023, .f32⟩
  | 34 => ⟨S8192x1023, .f32⟩
  | 35 => ⟨S_, .i32⟩
  | 36 => ⟨S1023, .i32⟩
  | 37 => ⟨S1023, .i1⟩
  | 38 => ⟨S_, .i32⟩
  | 39 => ⟨S1023, .i32⟩
  | 40 => ⟨S1023, .i32⟩
  | 41 => ⟨S1023, .i32⟩
  | 42 => ⟨S1023x1, .i32⟩
  | 43 => ⟨S8192x2047, .f32⟩
  | 44 => ⟨S_, .i32⟩
  | 45 => ⟨S1023, .i32⟩
  | 46 => ⟨S1023, .i1⟩
  | 47 => ⟨S_, .i32⟩
  | 48 => ⟨S1023, .i32⟩
  | 49 => ⟨S1023, .i32⟩
  | 50 => ⟨S1023, .i32⟩
  | 51 => ⟨S1023x1, .i32⟩
  | 52 => ⟨S8192x1023, .f32⟩
  | 53 => ⟨S_, .i32⟩
  | 54 => ⟨S1023, .i32⟩
  | 55 => ⟨S1023, .i1⟩
  | 56 => ⟨S_, .i32⟩
  | 57 => ⟨S1023, .i32⟩
  | 58 => ⟨S1023, .i32⟩
  | 59 => ⟨S1023, .i32⟩
  | 60 => ⟨S1023x1, .i32⟩
  | 61 => ⟨S8192x1023, .f32⟩
  | 62 => ⟨S8192x1023, .f32⟩
  | 63 => ⟨S_, .i32⟩
  | 64 => ⟨S1023, .i32⟩
  | 65 => ⟨S1023, .i1⟩
  | 66 => ⟨S_, .i32⟩
  | 67 => ⟨S1023, .i32⟩
  | 68 => ⟨S1023, .i32⟩
  | 69 => ⟨S1023, .i32⟩
  | 70 => ⟨S1023x1, .i32⟩
  | 71 => ⟨S8192x2047, .f32⟩
  | 72 => ⟨S_, .i32⟩
  | 73 => ⟨S1023, .i32⟩
  | 74 => ⟨S1023, .i1⟩
  | 75 => ⟨S_, .i32⟩
  | 76 => ⟨S1023, .i32⟩
  | 77 => ⟨S1023, .i32⟩
  | 78 => ⟨S1023, .i32⟩
  | 79 => ⟨S1023x1, .i32⟩
  | 80 => ⟨S8192x1023, .f32⟩
  | 81 => ⟨S_, .i32⟩
  | 82 => ⟨S1023, .i32⟩
  | 83 => ⟨S1023, .i1⟩
  | 84 => ⟨S_, .i32⟩
  | 85 => ⟨S1023, .i32⟩
  | 86 => ⟨S1023, .i32⟩
  | 87 => ⟨S1023, .i32⟩
  | 88 => ⟨S1023x1, .i32⟩
  | 89 => ⟨S8192x1023, .f32⟩
  | 90 => ⟨S8192x1023, .f32⟩
  | 91 => ⟨S_, .i32⟩
  | 92 => ⟨S1023, .i32⟩
  | 93 => ⟨S1023, .i1⟩
  | 94 => ⟨S_, .i32⟩
  | 95 => ⟨S1023, .i32⟩
  | 96 => ⟨S1023, .i32⟩
  | 97 => ⟨S1023, .i32⟩
  | 98 => ⟨S1023x1, .i32⟩
  | 99 => ⟨S8192x2047, .f32⟩
  | 100 => ⟨S_, .i32⟩
  | 101 => ⟨S1023, .i32⟩
  | 102 => ⟨S1023, .i1⟩
  | 103 => ⟨S_, .i32⟩
  | 104 => ⟨S1023, .i32⟩
  | 105 => ⟨S1023, .i32⟩
  | 106 => ⟨S1023, .i32⟩
  | 107 => ⟨S1023x1, .i32⟩
  | 108 => ⟨S8192x1023, .f32⟩
  | 109 => ⟨S_, .i32⟩
  | 110 => ⟨S1023, .i32⟩
  | 111 => ⟨S1023, .i1⟩
  | 112 => ⟨S_, .i32⟩
  | 113 => ⟨S1023, .i32⟩
  | 114 => ⟨S1023, .i32⟩
  | 115 => ⟨S1023, .i32⟩
  | 116 => ⟨S1023x1, .i32⟩
  | 117 => ⟨S8192x1023, .f32⟩
  | 118 => ⟨S8192x1023, .f32⟩
  | 119 => ⟨S_, .i32⟩
  | 120 => ⟨S1023, .i32⟩
  | 121 => ⟨S1023, .i1⟩
  | 122 => ⟨S_, .i32⟩
  | 123 => ⟨S1023, .i32⟩
  | 124 => ⟨S1023, .i32⟩
  | 125 => ⟨S1023, .i32⟩
  | 126 => ⟨S1023x1, .i32⟩
  | 127 => ⟨S8192x2047, .f32⟩
  | _ => ⟨S8192x1024, .f32⟩

abbrev hbmTy0_3 (i : Nat) : BufTy := match i % 128 with
  | 0 => ⟨S_, .i32⟩
  | 1 => ⟨S1023, .i32⟩
  | 2 => ⟨S1023, .i1⟩
  | 3 => ⟨S_, .i32⟩
  | 4 => ⟨S1023, .i32⟩
  | 5 => ⟨S1023, .i32⟩
  | 6 => ⟨S1023, .i32⟩
  | 7 => ⟨S1023x1, .i32⟩
  | 8 => ⟨S8192x1023, .f32⟩
  | 9 => ⟨S_, .i32⟩
  | 10 => ⟨S1023, .i32⟩
  | 11 => ⟨S1023, .i1⟩
  | 12 => ⟨S_, .i32⟩
  | 13 => ⟨S1023, .i32⟩
  | 14 => ⟨S1023, .i32⟩
  | 15 => ⟨S1023, .i32⟩
  | 16 => ⟨S1023x1, .i32⟩
  | 17 => ⟨S8192x1023, .f32⟩
  | 18 => ⟨S8192x1023, .f32⟩
  | 19 => ⟨S_, .i32⟩
  | 20 => ⟨S1023, .i32⟩
  | 21 => ⟨S1023, .i1⟩
  | 22 => ⟨S_, .i32⟩
  | 23 => ⟨S1023, .i32⟩
  | 24 => ⟨S1023, .i32⟩
  | 25 => ⟨S1023, .i32⟩
  | 26 => ⟨S1023x1, .i32⟩
  | 27 => ⟨S8192x2047, .f32⟩
  | 28 => ⟨S_, .i32⟩
  | 29 => ⟨S1023, .i32⟩
  | 30 => ⟨S1023, .i1⟩
  | 31 => ⟨S_, .i32⟩
  | 32 => ⟨S1023, .i32⟩
  | 33 => ⟨S1023, .i32⟩
  | 34 => ⟨S1023, .i32⟩
  | 35 => ⟨S1023x1, .i32⟩
  | 36 => ⟨S8192x1023, .f32⟩
  | 37 => ⟨S_, .i32⟩
  | 38 => ⟨S1023, .i32⟩
  | 39 => ⟨S1023, .i1⟩
  | 40 => ⟨S_, .i32⟩
  | 41 => ⟨S1023, .i32⟩
  | 42 => ⟨S1023, .i32⟩
  | 43 => ⟨S1023, .i32⟩
  | 44 => ⟨S1023x1, .i32⟩
  | 45 => ⟨S8192x1023, .f32⟩
  | 46 => ⟨S8192x1023, .f32⟩
  | 47 => ⟨S_, .i32⟩
  | 48 => ⟨S1023, .i32⟩
  | 49 => ⟨S1023, .i1⟩
  | 50 => ⟨S_, .i32⟩
  | 51 => ⟨S1023, .i32⟩
  | 52 => ⟨S1023, .i32⟩
  | 53 => ⟨S1023, .i32⟩
  | 54 => ⟨S1023x1, .i32⟩
  | 55 => ⟨S8192x2047, .f32⟩
  | 56 => ⟨S_, .i32⟩
  | 57 => ⟨S1023, .i32⟩
  | 58 => ⟨S1023, .i1⟩
  | 59 => ⟨S_, .i32⟩
  | 60 => ⟨S1023, .i32⟩
  | 61 => ⟨S1023, .i32⟩
  | 62 => ⟨S1023, .i32⟩
  | 63 => ⟨S1023x1, .i32⟩
  | 64 => ⟨S8192x1023, .f32⟩
  | 65 => ⟨S_, .i32⟩
  | 66 => ⟨S1023, .i32⟩
  | 67 => ⟨S1023, .i1⟩
  | 68 => ⟨S_, .i32⟩
  | 69 => ⟨S1023, .i32⟩
  | 70 => ⟨S1023, .i32⟩
  | 71 => ⟨S1023, .i32⟩
  | 72 => ⟨S1023x1, .i32⟩
  | 73 => ⟨S8192x1023, .f32⟩
  | 74 => ⟨S8192x1023, .f32⟩
  | 75 => ⟨S_, .i32⟩
  | 76 => ⟨S1023, .i32⟩
  | 77 => ⟨S1023, .i1⟩
  | 78 => ⟨S_, .i32⟩
  | 79 => ⟨S1023, .i32⟩
  | 80 => ⟨S1023, .i32⟩
  | 81 => ⟨S1023, .i32⟩
  | 82 => ⟨S1023x1, .i32⟩
  | 83 => ⟨S8192x2047, .f32⟩
  | 84 => ⟨S_, .i32⟩
  | 85 => ⟨S1023, .i32⟩
  | 86 => ⟨S1023, .i1⟩
  | 87 => ⟨S_, .i32⟩
  | 88 => ⟨S1023, .i32⟩
  | 89 => ⟨S1023, .i32⟩
  | 90 => ⟨S1023, .i32⟩
  | 91 => ⟨S1023x1, .i32⟩
  | 92 => ⟨S8192x1023, .f32⟩
  | 93 => ⟨S_, .i32⟩
  | 94 => ⟨S1023, .i32⟩
  | 95 => ⟨S1023, .i1⟩
  | 96 => ⟨S_, .i32⟩
  | 97 => ⟨S1023, .i32⟩
  | 98 => ⟨S1023, .i32⟩
  | 99 => ⟨S1023, .i32⟩
  | 100 => ⟨S1023x1, .i32⟩
  | 101 => ⟨S8192x1023, .f32⟩
  | 102 => ⟨S8192x1023, .f32⟩
  | 103 => ⟨S_, .i32⟩
  | 104 => ⟨S1023, .i32⟩
  | 105 => ⟨S1023, .i1⟩
  | 106 => ⟨S_, .i32⟩
  | 107 => ⟨S1023, .i32⟩
  | 108 => ⟨S1023, .i32⟩
  | 109 => ⟨S1023, .i32⟩
  | 110 => ⟨S1023x1, .i32⟩
  | 111 => ⟨S8192x2047, .f32⟩
  | 112 => ⟨S_, .i32⟩
  | 113 => ⟨S1023, .i32⟩
  | 114 => ⟨S1023, .i1⟩
  | 115 => ⟨S_, .i32⟩
  | 116 => ⟨S1023, .i32⟩
  | 117 => ⟨S1023, .i32⟩
  | 118 => ⟨S1023, .i32⟩
  | 119 => ⟨S1023x1, .i32⟩
  | 120 => ⟨S8192x1023, .f32⟩
  | 121 => ⟨S_, .i32⟩
  | 122 => ⟨S1023, .i32⟩
  | 123 => ⟨S1023, .i1⟩
  | 124 => ⟨S_, .i32⟩
  | 125 => ⟨S1023, .i32⟩
  | 126 => ⟨S1023, .i32⟩
  | 127 => ⟨S1023, .i32⟩
  | _ => ⟨S8192x1024, .f32⟩

abbrev hbmTy0_4 (i : Nat) : BufTy := match i % 128 with
  | 0 => ⟨S1023x1, .i32⟩
  | 1 => ⟨S8192x1023, .f32⟩
  | 2 => ⟨S8192x1023, .f32⟩
  | 3 => ⟨S_, .i32⟩
  | 4 => ⟨S1023, .i32⟩
  | 5 => ⟨S1023, .i1⟩
  | 6 => ⟨S_, .i32⟩
  | 7 => ⟨S1023, .i32⟩
  | 8 => ⟨S1023, .i32⟩
  | 9 => ⟨S1023, .i32⟩
  | 10 => ⟨S1023x1, .i32⟩
  | 11 => ⟨S8192x2047, .f32⟩
  | 12 => ⟨S_, .i32⟩
  | 13 => ⟨S1023, .i32⟩
  | 14 => ⟨S1023, .i1⟩
  | 15 => ⟨S_, .i32⟩
  | 16 => ⟨S1023, .i32⟩
  | 17 => ⟨S1023, .i32⟩
  | 18 => ⟨S1023, .i32⟩
  | 19 => ⟨S1023x1, .i32⟩
  | 20 => ⟨S8192x1023, .f32⟩
  | 21 => ⟨S_, .i32⟩
  | 22 => ⟨S1023, .i32⟩
  | 23 => ⟨S1023, .i1⟩
  | 24 => ⟨S_, .i32⟩
  | 25 => ⟨S1023, .i32⟩
  | 26 => ⟨S1023, .i32⟩
  | 27 => ⟨S1023, .i32⟩
  | 28 => ⟨S1023x1, .i32⟩
  | 29 => ⟨S8192x1023, .f32⟩
  | 30 => ⟨S8192x1023, .f32⟩
  | 31 => ⟨S_, .i32⟩
  | 32 => ⟨S1023, .i32⟩
  | 33 => ⟨S1023, .i1⟩
  | 34 => ⟨S_, .i32⟩
  | 35 => ⟨S1023, .i32⟩
  | 36 => ⟨S1023, .i32⟩
  | 37 => ⟨S1023, .i32⟩
  | 38 => ⟨S1023x1, .i32⟩
  | 39 => ⟨S8192x2047, .f32⟩
  | 40 => ⟨S_, .i32⟩
  | 41 => ⟨S1023, .i32⟩
  | 42 => ⟨S1023, .i1⟩
  | 43 => ⟨S_, .i32⟩
  | 44 => ⟨S1023, .i32⟩
  | 45 => ⟨S1023, .i32⟩
  | 46 => ⟨S1023, .i32⟩
  | 47 => ⟨S1023x1, .i32⟩
  | 48 => ⟨S8192x1023, .f32⟩
  | 49 => ⟨S_, .i32⟩
  | 50 => ⟨S1023, .i32⟩
  | 51 => ⟨S1023, .i1⟩
  | 52 => ⟨S_, .i32⟩
  | 53 => ⟨S1023, .i32⟩
  | 54 => ⟨S1023, .i32⟩
  | 55 => ⟨S1023, .i32⟩
  | 56 => ⟨S1023x1, .i32⟩
  | 57 => ⟨S8192x1023, .f32⟩
  | 58 => ⟨S8192x1023, .f32⟩
  | 59 => ⟨S_, .i32⟩
  | 60 => ⟨S1023, .i32⟩
  | 61 => ⟨S1023, .i1⟩
  | 62 => ⟨S_, .i32⟩
  | 63 => ⟨S1023, .i32⟩
  | 64 => ⟨S1023, .i32⟩
  | 65 => ⟨S1023, .i32⟩
  | 66 => ⟨S1023x1, .i32⟩
  | 67 => ⟨S8192x2047, .f32⟩
  | 68 => ⟨S_, .i32⟩
  | 69 => ⟨S1023, .i32⟩
  | 70 => ⟨S1023, .i1⟩
  | 71 => ⟨S_, .i32⟩
  | 72 => ⟨S1023, .i32⟩
  | 73 => ⟨S1023, .i32⟩
  | 74 => ⟨S1023, .i32⟩
  | 75 => ⟨S1023x1, .i32⟩
  | 76 => ⟨S8192x1023, .f32⟩
  | 77 => ⟨S_, .i32⟩
  | 78 => ⟨S1023, .i32⟩
  | 79 => ⟨S1023, .i1⟩
  | 80 => ⟨S_, .i32⟩
  | 81 => ⟨S1023, .i32⟩
  | 82 => ⟨S1023, .i32⟩
  | 83 => ⟨S1023, .i32⟩
  | 84 => ⟨S1023x1, .i32⟩
  | 85 => ⟨S8192x1023, .f32⟩
  | 86 => ⟨S8192x1023, .f32⟩
  | 87 => ⟨S_, .i32⟩
  | 88 => ⟨S1023, .i32⟩
  | 89 => ⟨S1023, .i1⟩
  | 90 => ⟨S_, .i32⟩
  | 91 => ⟨S1023, .i32⟩
  | 92 => ⟨S1023, .i32⟩
  | 93 => ⟨S1023, .i32⟩
  | 94 => ⟨S1023x1, .i32⟩
  | 95 => ⟨S8192x2047, .f32⟩
  | 96 => ⟨S_, .i32⟩
  | 97 => ⟨S1023, .i32⟩
  | 98 => ⟨S1023, .i1⟩
  | 99 => ⟨S_, .i32⟩
  | 100 => ⟨S1023, .i32⟩
  | 101 => ⟨S1023, .i32⟩
  | 102 => ⟨S1023, .i32⟩
  | 103 => ⟨S1023x1, .i32⟩
  | 104 => ⟨S8192x1023, .f32⟩
  | 105 => ⟨S_, .i32⟩
  | 106 => ⟨S1023, .i32⟩
  | 107 => ⟨S1023, .i1⟩
  | 108 => ⟨S_, .i32⟩
  | 109 => ⟨S1023, .i32⟩
  | 110 => ⟨S1023, .i32⟩
  | 111 => ⟨S1023, .i32⟩
  | 112 => ⟨S1023x1, .i32⟩
  | 113 => ⟨S8192x1023, .f32⟩
  | 114 => ⟨S8192x1023, .f32⟩
  | 115 => ⟨S_, .i32⟩
  | 116 => ⟨S1023, .i32⟩
  | 117 => ⟨S1023, .i1⟩
  | 118 => ⟨S_, .i32⟩
  | 119 => ⟨S1023, .i32⟩
  | 120 => ⟨S1023, .i32⟩
  | 121 => ⟨S1023, .i32⟩
  | 122 => ⟨S1023x1, .i32⟩
  | 123 => ⟨S8192x2047, .f32⟩
  | 124 => ⟨S_, .f32⟩
  | 125 => ⟨S_, .f32⟩
  | 126 => ⟨S_, .f32⟩
  | 127 => ⟨S8192x2047, .f32⟩
  | _ => ⟨S8192x1024, .f32⟩

abbrev hbmTy0_5 (i : Nat) : BufTy := match i % 128 with
  | 0 => ⟨S8192x2047, .f32⟩
  | 1 => ⟨S_, .f32⟩
  | 2 => ⟨S8192x2047, .f32⟩
  | 3 => ⟨S8192x2047, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_5 : Ref sig .tc := ⟨.hbm, 28, rfl⟩
abbrev main_v19 : Ref sig .tc := ⟨.hbm, 29, rfl⟩
abbrev main_v20 : Ref sig .tc := ⟨.hbm, 30, rfl⟩
abbrev main_c_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_9 : Ref sig .tc := ⟨.hbm, 47, rfl⟩
abbrev main_v34 : Ref sig .tc := ⟨.hbm, 48, rfl⟩
abbrev main_v35 : Ref sig .tc := ⟨.hbm, 49, rfl⟩
abbrev main_c_10 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_11 : Ref sig .tc := ⟨.hbm, 56, rfl⟩
abbrev main_v41 : Ref sig .tc := ⟨.hbm, 57, rfl⟩
abbrev main_v42 : Ref sig .tc := ⟨.hbm, 58, rfl⟩
abbrev main_c_12 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_13 : Ref sig .tc := ⟨.hbm, 67, rfl⟩
abbrev main_v50 : Ref sig .tc := ⟨.hbm, 68, rfl⟩
abbrev main_v51 : Ref sig .tc := ⟨.hbm, 69, rfl⟩
abbrev main_c_14 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_15 : Ref sig .tc := ⟨.hbm, 76, rfl⟩
abbrev main_v57 : Ref sig .tc := ⟨.hbm, 77, rfl⟩
abbrev main_v58 : Ref sig .tc := ⟨.hbm, 78, rfl⟩
abbrev main_c_16 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_c_17 : Ref sig .tc := ⟨.hbm, 85, rfl⟩
abbrev main_v64 : Ref sig .tc := ⟨.hbm, 86, rfl⟩
abbrev main_v65 : Ref sig .tc := ⟨.hbm, 87, rfl⟩
abbrev main_c_18 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_19 : Ref sig .tc := ⟨.hbm, 95, rfl⟩
abbrev main_v72 : Ref sig .tc := ⟨.hbm, 96, rfl⟩
abbrev main_v73 : Ref sig .tc := ⟨.hbm, 97, rfl⟩
abbrev main_c_20 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_21 : Ref sig .tc := ⟨.hbm, 104, rfl⟩
abbrev main_v79 : Ref sig .tc := ⟨.hbm, 105, rfl⟩
abbrev main_v80 : Ref sig .tc := ⟨.hbm, 106, rfl⟩
abbrev main_c_22 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_c_23 : Ref sig .tc := ⟨.hbm, 113, rfl⟩
abbrev main_v86 : Ref sig .tc := ⟨.hbm, 114, rfl⟩
abbrev main_v87 : Ref sig .tc := ⟨.hbm, 115, rfl⟩
abbrev main_c_24 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_25 : Ref sig .tc := ⟨.hbm, 123, rfl⟩
abbrev main_v94 : Ref sig .tc := ⟨.hbm, 124, rfl⟩
abbrev main_v95 : Ref sig .tc := ⟨.hbm, 125, rfl⟩
abbrev main_c_26 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_c_27 : Ref sig .tc := ⟨.hbm, 132, rfl⟩
abbrev main_v101 : Ref sig .tc := ⟨.hbm, 133, rfl⟩
abbrev main_v102 : Ref sig .tc := ⟨.hbm, 134, rfl⟩
abbrev main_c_28 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_c_29 : Ref sig .tc := ⟨.hbm, 141, rfl⟩
abbrev main_v108 : Ref sig .tc := ⟨.hbm, 142, rfl⟩
abbrev main_v109 : Ref sig .tc := ⟨.hbm, 143, rfl⟩
abbrev main_c_30 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_c_31 : Ref sig .tc := ⟨.hbm, 151, rfl⟩
abbrev main_v116 : Ref sig .tc := ⟨.hbm, 152, rfl⟩
abbrev main_v117 : Ref sig .tc := ⟨.hbm, 153, rfl⟩
abbrev main_c_32 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_33 : Ref sig .tc := ⟨.hbm, 160, rfl⟩
abbrev main_v123 : Ref sig .tc := ⟨.hbm, 161, rfl⟩
abbrev main_v124 : Ref sig .tc := ⟨.hbm, 162, rfl⟩
abbrev main_c_34 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_35 : Ref sig .tc := ⟨.hbm, 169, rfl⟩
abbrev main_v130 : Ref sig .tc := ⟨.hbm, 170, rfl⟩
abbrev main_v131 : Ref sig .tc := ⟨.hbm, 171, rfl⟩
abbrev main_c_36 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_c_37 : Ref sig .tc := ⟨.hbm, 179, rfl⟩
abbrev main_v138 : Ref sig .tc := ⟨.hbm, 180, rfl⟩
abbrev main_v139 : Ref sig .tc := ⟨.hbm, 181, rfl⟩
abbrev main_c_38 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_c_39 : Ref sig .tc := ⟨.hbm, 188, rfl⟩
abbrev main_v145 : Ref sig .tc := ⟨.hbm, 189, rfl⟩
abbrev main_v146 : Ref sig .tc := ⟨.hbm, 190, rfl⟩
abbrev main_c_40 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_c_41 : Ref sig .tc := ⟨.hbm, 197, rfl⟩
abbrev main_v152 : Ref sig .tc := ⟨.hbm, 198, rfl⟩
abbrev main_v153 : Ref sig .tc := ⟨.hbm, 199, rfl⟩
abbrev main_c_42 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_c_43 : Ref sig .tc := ⟨.hbm, 207, rfl⟩
abbrev main_v160 : Ref sig .tc := ⟨.hbm, 208, rfl⟩
abbrev main_v161 : Ref sig .tc := ⟨.hbm, 209, rfl⟩
abbrev main_c_44 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_c_45 : Ref sig .tc := ⟨.hbm, 216, rfl⟩
abbrev main_v167 : Ref sig .tc := ⟨.hbm, 217, rfl⟩
abbrev main_v168 : Ref sig .tc := ⟨.hbm, 218, rfl⟩
abbrev main_c_46 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_c_47 : Ref sig .tc := ⟨.hbm, 225, rfl⟩
abbrev main_v174 : Ref sig .tc := ⟨.hbm, 226, rfl⟩
abbrev main_v175 : Ref sig .tc := ⟨.hbm, 227, rfl⟩
abbrev main_c_48 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_c_49 : Ref sig .tc := ⟨.hbm, 235, rfl⟩
abbrev main_v182 : Ref sig .tc := ⟨.hbm, 236, rfl⟩
abbrev main_v183 : Ref sig .tc := ⟨.hbm, 237, rfl⟩
abbrev main_c_50 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_c_51 : Ref sig .tc := ⟨.hbm, 244, rfl⟩
abbrev main_v189 : Ref sig .tc := ⟨.hbm, 245, rfl⟩
abbrev main_v190 : Ref sig .tc := ⟨.hbm, 246, rfl⟩
abbrev main_c_52 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_c_53 : Ref sig .tc := ⟨.hbm, 253, rfl⟩
abbrev main_v196 : Ref sig .tc := ⟨.hbm, 254, rfl⟩
abbrev main_v197 : Ref sig .tc := ⟨.hbm, 255, rfl⟩
abbrev main_c_54 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_c_55 : Ref sig .tc := ⟨.hbm, 263, rfl⟩
abbrev main_v204 : Ref sig .tc := ⟨.hbm, 264, rfl⟩
abbrev main_v205 : Ref sig .tc := ⟨.hbm, 265, rfl⟩
abbrev main_c_56 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_c_57 : Ref sig .tc := ⟨.hbm, 272, rfl⟩
abbrev main_v211 : Ref sig .tc := ⟨.hbm, 273, rfl⟩
abbrev main_v212 : Ref sig .tc := ⟨.hbm, 274, rfl⟩
abbrev main_c_58 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_c_59 : Ref sig .tc := ⟨.hbm, 281, rfl⟩
abbrev main_v218 : Ref sig .tc := ⟨.hbm, 282, rfl⟩
abbrev main_v219 : Ref sig .tc := ⟨.hbm, 283, rfl⟩
abbrev main_c_60 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_c_61 : Ref sig .tc := ⟨.hbm, 291, rfl⟩
abbrev main_v226 : Ref sig .tc := ⟨.hbm, 292, rfl⟩
abbrev main_v227 : Ref sig .tc := ⟨.hbm, 293, rfl⟩
abbrev main_c_62 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_c_63 : Ref sig .tc := ⟨.hbm, 300, rfl⟩
abbrev main_v233 : Ref sig .tc := ⟨.hbm, 301, rfl⟩
abbrev main_v234 : Ref sig .tc := ⟨.hbm, 302, rfl⟩
abbrev main_c_64 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_v239 : Ref sig .tc := ⟨.hbm, 308, rfl⟩
abbrev main_c_65 : Ref sig .tc := ⟨.hbm, 309, rfl⟩
abbrev main_v240 : Ref sig .tc := ⟨.hbm, 310, rfl⟩
abbrev main_v241 : Ref sig .tc := ⟨.hbm, 311, rfl⟩
abbrev main_c_66 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_c_67 : Ref sig .tc := ⟨.hbm, 319, rfl⟩
abbrev main_v248 : Ref sig .tc := ⟨.hbm, 320, rfl⟩
abbrev main_v249 : Ref sig .tc := ⟨.hbm, 321, rfl⟩
abbrev main_c_68 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_c_69 : Ref sig .tc := ⟨.hbm, 328, rfl⟩
abbrev main_v255 : Ref sig .tc := ⟨.hbm, 329, rfl⟩
abbrev main_v256 : Ref sig .tc := ⟨.hbm, 330, rfl⟩
abbrev main_c_70 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_c_71 : Ref sig .tc := ⟨.hbm, 337, rfl⟩
abbrev main_v262 : Ref sig .tc := ⟨.hbm, 338, rfl⟩
abbrev main_v263 : Ref sig .tc := ⟨.hbm, 339, rfl⟩
abbrev main_c_72 : Ref sig .tc := ⟨.hbm, 340, rfl⟩
abbrev main_v264 : Ref sig .tc := ⟨.hbm, 341, rfl⟩
abbrev main_v265 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_c_73 : Ref sig .tc := ⟨.hbm, 347, rfl⟩
abbrev main_v270 : Ref sig .tc := ⟨.hbm, 348, rfl⟩
abbrev main_v271 : Ref sig .tc := ⟨.hbm, 349, rfl⟩
abbrev main_c_74 : Ref sig .tc := ⟨.hbm, 350, rfl⟩
abbrev main_v272 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_c_75 : Ref sig .tc := ⟨.hbm, 356, rfl⟩
abbrev main_v277 : Ref sig .tc := ⟨.hbm, 357, rfl⟩
abbrev main_v278 : Ref sig .tc := ⟨.hbm, 358, rfl⟩
abbrev main_c_76 : Ref sig .tc := ⟨.hbm, 359, rfl⟩
abbrev main_v279 : Ref sig .tc := ⟨.hbm, 360, rfl⟩
abbrev main_v280 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_c_77 : Ref sig .tc := ⟨.hbm, 365, rfl⟩
abbrev main_v284 : Ref sig .tc := ⟨.hbm, 366, rfl⟩
abbrev main_v285 : Ref sig .tc := ⟨.hbm, 367, rfl⟩
abbrev main_c_78 : Ref sig .tc := ⟨.hbm, 368, rfl⟩
abbrev main_v286 : Ref sig .tc := ⟨.hbm, 369, rfl⟩
abbrev main_v287 : Ref sig .tc := ⟨.hbm, 370, rfl⟩
abbrev main_v288 : Ref sig .tc := ⟨.hbm, 371, rfl⟩
abbrev main_v289 : Ref sig .tc := ⟨.hbm, 372, rfl⟩
abbrev main_v290 : Ref sig .tc := ⟨.hbm, 373, rfl⟩
abbrev main_v291 : Ref sig .tc := ⟨.hbm, 374, rfl⟩
abbrev main_c_79 : Ref sig .tc := ⟨.hbm, 375, rfl⟩
abbrev main_v292 : Ref sig .tc := ⟨.hbm, 376, rfl⟩
abbrev main_v293 : Ref sig .tc := ⟨.hbm, 377, rfl⟩
abbrev main_c_80 : Ref sig .tc := ⟨.hbm, 378, rfl⟩
abbrev main_v294 : Ref sig .tc := ⟨.hbm, 379, rfl⟩
abbrev main_v295 : Ref sig .tc := ⟨.hbm, 380, rfl⟩
abbrev main_v296 : Ref sig .tc := ⟨.hbm, 381, rfl⟩
abbrev main_v297 : Ref sig .tc := ⟨.hbm, 382, rfl⟩
abbrev main_v298 : Ref sig .tc := ⟨.hbm, 383, rfl⟩
abbrev main_c_81 : Ref sig .tc := ⟨.hbm, 384, rfl⟩
abbrev main_v299 : Ref sig .tc := ⟨.hbm, 385, rfl⟩
abbrev main_v300 : Ref sig .tc := ⟨.hbm, 386, rfl⟩
abbrev main_c_82 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_c_83 : Ref sig .tc := ⟨.hbm, 393, rfl⟩
abbrev main_v306 : Ref sig .tc := ⟨.hbm, 394, rfl⟩
abbrev main_v307 : Ref sig .tc := ⟨.hbm, 395, rfl⟩
abbrev main_c_84 : Ref sig .tc := ⟨.hbm, 396, rfl⟩
abbrev main_v308 : Ref sig .tc := ⟨.hbm, 397, rfl⟩
abbrev main_v309 : Ref sig .tc := ⟨.hbm, 398, rfl⟩
abbrev main_v310 : Ref sig .tc := ⟨.hbm, 399, rfl⟩
abbrev main_v311 : Ref sig .tc := ⟨.hbm, 400, rfl⟩
abbrev main_v312 : Ref sig .tc := ⟨.hbm, 401, rfl⟩
abbrev main_v313 : Ref sig .tc := ⟨.hbm, 402, rfl⟩
abbrev main_c_85 : Ref sig .tc := ⟨.hbm, 403, rfl⟩
abbrev main_v314 : Ref sig .tc := ⟨.hbm, 404, rfl⟩
abbrev main_v315 : Ref sig .tc := ⟨.hbm, 405, rfl⟩
abbrev main_c_86 : Ref sig .tc := ⟨.hbm, 406, rfl⟩
abbrev main_v316 : Ref sig .tc := ⟨.hbm, 407, rfl⟩
abbrev main_v317 : Ref sig .tc := ⟨.hbm, 408, rfl⟩
abbrev main_v318 : Ref sig .tc := ⟨.hbm, 409, rfl⟩
abbrev main_v319 : Ref sig .tc := ⟨.hbm, 410, rfl⟩
abbrev main_v320 : Ref sig .tc := ⟨.hbm, 411, rfl⟩
abbrev main_c_87 : Ref sig .tc := ⟨.hbm, 412, rfl⟩
abbrev main_v321 : Ref sig .tc := ⟨.hbm, 413, rfl⟩
abbrev main_v322 : Ref sig .tc := ⟨.hbm, 414, rfl⟩
abbrev main_c_88 : Ref sig .tc := ⟨.hbm, 415, rfl⟩
abbrev main_v323 : Ref sig .tc := ⟨.hbm, 416, rfl⟩
abbrev main_v324 : Ref sig .tc := ⟨.hbm, 417, rfl⟩
abbrev main_v325 : Ref sig .tc := ⟨.hbm, 418, rfl⟩
abbrev main_v326 : Ref sig .tc := ⟨.hbm, 419, rfl⟩
abbrev main_v327 : Ref sig .tc := ⟨.hbm, 420, rfl⟩
abbrev main_c_89 : Ref sig .tc := ⟨.hbm, 421, rfl⟩
abbrev main_v328 : Ref sig .tc := ⟨.hbm, 422, rfl⟩
abbrev main_v329 : Ref sig .tc := ⟨.hbm, 423, rfl⟩
abbrev main_c_90 : Ref sig .tc := ⟨.hbm, 424, rfl⟩
abbrev main_v330 : Ref sig .tc := ⟨.hbm, 425, rfl⟩
abbrev main_v331 : Ref sig .tc := ⟨.hbm, 426, rfl⟩
abbrev main_v332 : Ref sig .tc := ⟨.hbm, 427, rfl⟩
abbrev main_v333 : Ref sig .tc := ⟨.hbm, 428, rfl⟩
abbrev main_v334 : Ref sig .tc := ⟨.hbm, 429, rfl⟩
abbrev main_v335 : Ref sig .tc := ⟨.hbm, 430, rfl⟩
abbrev main_c_91 : Ref sig .tc := ⟨.hbm, 431, rfl⟩
abbrev main_v336 : Ref sig .tc := ⟨.hbm, 432, rfl⟩
abbrev main_v337 : Ref sig .tc := ⟨.hbm, 433, rfl⟩
abbrev main_c_92 : Ref sig .tc := ⟨.hbm, 434, rfl⟩
abbrev main_v338 : Ref sig .tc := ⟨.hbm, 435, rfl⟩
abbrev main_v339 : Ref sig .tc := ⟨.hbm, 436, rfl⟩
abbrev main_v340 : Ref sig .tc := ⟨.hbm, 437, rfl⟩
abbrev main_v341 : Ref sig .tc := ⟨.hbm, 438, rfl⟩
abbrev main_v342 : Ref sig .tc := ⟨.hbm, 439, rfl⟩
abbrev main_c_93 : Ref sig .tc := ⟨.hbm, 440, rfl⟩
abbrev main_v343 : Ref sig .tc := ⟨.hbm, 441, rfl⟩
abbrev main_v344 : Ref sig .tc := ⟨.hbm, 442, rfl⟩
abbrev main_c_94 : Ref sig .tc := ⟨.hbm, 443, rfl⟩
abbrev main_v345 : Ref sig .tc := ⟨.hbm, 444, rfl⟩
abbrev main_v346 : Ref sig .tc := ⟨.hbm, 445, rfl⟩
abbrev main_v347 : Ref sig .tc := ⟨.hbm, 446, rfl⟩
abbrev main_v348 : Ref sig .tc := ⟨.hbm, 447, rfl⟩
abbrev main_v349 : Ref sig .tc := ⟨.hbm, 448, rfl⟩
abbrev main_c_95 : Ref sig .tc := ⟨.hbm, 449, rfl⟩
abbrev main_v350 : Ref sig .tc := ⟨.hbm, 450, rfl⟩
abbrev main_v351 : Ref sig .tc := ⟨.hbm, 451, rfl⟩
abbrev main_c_96 : Ref sig .tc := ⟨.hbm, 452, rfl⟩
abbrev main_v352 : Ref sig .tc := ⟨.hbm, 453, rfl⟩
abbrev main_v353 : Ref sig .tc := ⟨.hbm, 454, rfl⟩
abbrev main_v354 : Ref sig .tc := ⟨.hbm, 455, rfl⟩
abbrev main_v355 : Ref sig .tc := ⟨.hbm, 456, rfl⟩
abbrev main_v356 : Ref sig .tc := ⟨.hbm, 457, rfl⟩
abbrev main_v357 : Ref sig .tc := ⟨.hbm, 458, rfl⟩
abbrev main_c_97 : Ref sig .tc := ⟨.hbm, 459, rfl⟩
abbrev main_v358 : Ref sig .tc := ⟨.hbm, 460, rfl⟩
abbrev main_v359 : Ref sig .tc := ⟨.hbm, 461, rfl⟩
abbrev main_c_98 : Ref sig .tc := ⟨.hbm, 462, rfl⟩
abbrev main_v360 : Ref sig .tc := ⟨.hbm, 463, rfl⟩
abbrev main_v361 : Ref sig .tc := ⟨.hbm, 464, rfl⟩
abbrev main_v362 : Ref sig .tc := ⟨.hbm, 465, rfl⟩
abbrev main_v363 : Ref sig .tc := ⟨.hbm, 466, rfl⟩
abbrev main_v364 : Ref sig .tc := ⟨.hbm, 467, rfl⟩
abbrev main_c_99 : Ref sig .tc := ⟨.hbm, 468, rfl⟩
abbrev main_v365 : Ref sig .tc := ⟨.hbm, 469, rfl⟩
abbrev main_v366 : Ref sig .tc := ⟨.hbm, 470, rfl⟩
abbrev main_c_100 : Ref sig .tc := ⟨.hbm, 471, rfl⟩
abbrev main_v367 : Ref sig .tc := ⟨.hbm, 472, rfl⟩
abbrev main_v368 : Ref sig .tc := ⟨.hbm, 473, rfl⟩
abbrev main_v369 : Ref sig .tc := ⟨.hbm, 474, rfl⟩
abbrev main_v370 : Ref sig .tc := ⟨.hbm, 475, rfl⟩
abbrev main_v371 : Ref sig .tc := ⟨.hbm, 476, rfl⟩
abbrev main_c_101 : Ref sig .tc := ⟨.hbm, 477, rfl⟩
abbrev main_v372 : Ref sig .tc := ⟨.hbm, 478, rfl⟩
abbrev main_v373 : Ref sig .tc := ⟨.hbm, 479, rfl⟩
abbrev main_c_102 : Ref sig .tc := ⟨.hbm, 480, rfl⟩
abbrev main_v374 : Ref sig .tc := ⟨.hbm, 481, rfl⟩
abbrev main_v375 : Ref sig .tc := ⟨.hbm, 482, rfl⟩
abbrev main_v376 : Ref sig .tc := ⟨.hbm, 483, rfl⟩
abbrev main_v377 : Ref sig .tc := ⟨.hbm, 484, rfl⟩
abbrev main_v378 : Ref sig .tc := ⟨.hbm, 485, rfl⟩
abbrev main_v379 : Ref sig .tc := ⟨.hbm, 486, rfl⟩
abbrev main_c_103 : Ref sig .tc := ⟨.hbm, 487, rfl⟩
abbrev main_v380 : Ref sig .tc := ⟨.hbm, 488, rfl⟩
abbrev main_v381 : Ref sig .tc := ⟨.hbm, 489, rfl⟩
abbrev main_c_104 : Ref sig .tc := ⟨.hbm, 490, rfl⟩
abbrev main_v382 : Ref sig .tc := ⟨.hbm, 491, rfl⟩
abbrev main_v383 : Ref sig .tc := ⟨.hbm, 492, rfl⟩
abbrev main_v384 : Ref sig .tc := ⟨.hbm, 493, rfl⟩
abbrev main_v385 : Ref sig .tc := ⟨.hbm, 494, rfl⟩
abbrev main_v386 : Ref sig .tc := ⟨.hbm, 495, rfl⟩
abbrev main_c_105 : Ref sig .tc := ⟨.hbm, 496, rfl⟩
abbrev main_v387 : Ref sig .tc := ⟨.hbm, 497, rfl⟩
abbrev main_v388 : Ref sig .tc := ⟨.hbm, 498, rfl⟩
abbrev main_c_106 : Ref sig .tc := ⟨.hbm, 499, rfl⟩
abbrev main_v389 : Ref sig .tc := ⟨.hbm, 500, rfl⟩
abbrev main_v390 : Ref sig .tc := ⟨.hbm, 501, rfl⟩
abbrev main_v391 : Ref sig .tc := ⟨.hbm, 502, rfl⟩
abbrev main_v392 : Ref sig .tc := ⟨.hbm, 503, rfl⟩
abbrev main_v393 : Ref sig .tc := ⟨.hbm, 504, rfl⟩
abbrev main_c_107 : Ref sig .tc := ⟨.hbm, 505, rfl⟩
abbrev main_v394 : Ref sig .tc := ⟨.hbm, 506, rfl⟩
abbrev main_v395 : Ref sig .tc := ⟨.hbm, 507, rfl⟩
abbrev main_c_108 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_v401 : Ref sig .tc := ⟨.hbm, 514, rfl⟩
abbrev main_c_109 : Ref sig .tc := ⟨.hbm, 515, rfl⟩
abbrev main_v402 : Ref sig .tc := ⟨.hbm, 516, rfl⟩
abbrev main_v403 : Ref sig .tc := ⟨.hbm, 517, rfl⟩
abbrev main_c_110 : Ref sig .tc := ⟨.hbm, 518, rfl⟩
abbrev main_v404 : Ref sig .tc := ⟨.hbm, 519, rfl⟩
abbrev main_v405 : Ref sig .tc := ⟨.hbm, 520, rfl⟩
abbrev main_v406 : Ref sig .tc := ⟨.hbm, 521, rfl⟩
abbrev main_v407 : Ref sig .tc := ⟨.hbm, 522, rfl⟩
abbrev main_v408 : Ref sig .tc := ⟨.hbm, 523, rfl⟩
abbrev main_c_111 : Ref sig .tc := ⟨.hbm, 524, rfl⟩
abbrev main_v409 : Ref sig .tc := ⟨.hbm, 525, rfl⟩
abbrev main_v410 : Ref sig .tc := ⟨.hbm, 526, rfl⟩
abbrev main_c_112 : Ref sig .tc := ⟨.hbm, 527, rfl⟩
abbrev main_v411 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_v415 : Ref sig .tc := ⟨.hbm, 532, rfl⟩
abbrev main_c_113 : Ref sig .tc := ⟨.hbm, 533, rfl⟩
abbrev main_v416 : Ref sig .tc := ⟨.hbm, 534, rfl⟩
abbrev main_v417 : Ref sig .tc := ⟨.hbm, 535, rfl⟩
abbrev main_c_114 : Ref sig .tc := ⟨.hbm, 536, rfl⟩
abbrev main_v418 : Ref sig .tc := ⟨.hbm, 537, rfl⟩
abbrev main_v419 : Ref sig .tc := ⟨.hbm, 538, rfl⟩
abbrev main_v420 : Ref sig .tc := ⟨.hbm, 539, rfl⟩
abbrev main_v421 : Ref sig .tc := ⟨.hbm, 540, rfl⟩
abbrev main_v422 : Ref sig .tc := ⟨.hbm, 541, rfl⟩
abbrev main_v423 : Ref sig .tc := ⟨.hbm, 542, rfl⟩
abbrev main_c_115 : Ref sig .tc := ⟨.hbm, 543, rfl⟩
abbrev main_v424 : Ref sig .tc := ⟨.hbm, 544, rfl⟩
abbrev main_v425 : Ref sig .tc := ⟨.hbm, 545, rfl⟩
abbrev main_c_116 : Ref sig .tc := ⟨.hbm, 546, rfl⟩
abbrev main_v426 : Ref sig .tc := ⟨.hbm, 547, rfl⟩
abbrev main_v427 : Ref sig .tc := ⟨.hbm, 548, rfl⟩
abbrev main_v428 : Ref sig .tc := ⟨.hbm, 549, rfl⟩
abbrev main_v429 : Ref sig .tc := ⟨.hbm, 550, rfl⟩
abbrev main_v430 : Ref sig .tc := ⟨.hbm, 551, rfl⟩
abbrev main_c_117 : Ref sig .tc := ⟨.hbm, 552, rfl⟩
abbrev main_v431 : Ref sig .tc := ⟨.hbm, 553, rfl⟩
abbrev main_v432 : Ref sig .tc := ⟨.hbm, 554, rfl⟩
abbrev main_c_118 : Ref sig .tc := ⟨.hbm, 555, rfl⟩
abbrev main_v433 : Ref sig .tc := ⟨.hbm, 556, rfl⟩
abbrev main_v434 : Ref sig .tc := ⟨.hbm, 557, rfl⟩
abbrev main_v435 : Ref sig .tc := ⟨.hbm, 558, rfl⟩
abbrev main_v436 : Ref sig .tc := ⟨.hbm, 559, rfl⟩
abbrev main_v437 : Ref sig .tc := ⟨.hbm, 560, rfl⟩
abbrev main_c_119 : Ref sig .tc := ⟨.hbm, 561, rfl⟩
abbrev main_v438 : Ref sig .tc := ⟨.hbm, 562, rfl⟩
abbrev main_v439 : Ref sig .tc := ⟨.hbm, 563, rfl⟩
abbrev main_c_120 : Ref sig .tc := ⟨.hbm, 564, rfl⟩
abbrev main_v440 : Ref sig .tc := ⟨.hbm, 565, rfl⟩
abbrev main_v441 : Ref sig .tc := ⟨.hbm, 566, rfl⟩
abbrev main_v442 : Ref sig .tc := ⟨.hbm, 567, rfl⟩
abbrev main_v443 : Ref sig .tc := ⟨.hbm, 568, rfl⟩
abbrev main_v444 : Ref sig .tc := ⟨.hbm, 569, rfl⟩
abbrev main_v445 : Ref sig .tc := ⟨.hbm, 570, rfl⟩
abbrev main_c_121 : Ref sig .tc := ⟨.hbm, 571, rfl⟩
abbrev main_v446 : Ref sig .tc := ⟨.hbm, 572, rfl⟩
abbrev main_v447 : Ref sig .tc := ⟨.hbm, 573, rfl⟩
abbrev main_c_122 : Ref sig .tc := ⟨.hbm, 574, rfl⟩
abbrev main_v448 : Ref sig .tc := ⟨.hbm, 575, rfl⟩
abbrev main_v449 : Ref sig .tc := ⟨.hbm, 576, rfl⟩
abbrev main_v450 : Ref sig .tc := ⟨.hbm, 577, rfl⟩
abbrev main_v451 : Ref sig .tc := ⟨.hbm, 578, rfl⟩
abbrev main_v452 : Ref sig .tc := ⟨.hbm, 579, rfl⟩
abbrev main_c_123 : Ref sig .tc := ⟨.hbm, 580, rfl⟩
abbrev main_v453 : Ref sig .tc := ⟨.hbm, 581, rfl⟩
abbrev main_v454 : Ref sig .tc := ⟨.hbm, 582, rfl⟩
abbrev main_c_124 : Ref sig .tc := ⟨.hbm, 583, rfl⟩
abbrev main_v455 : Ref sig .tc := ⟨.hbm, 584, rfl⟩
abbrev main_v456 : Ref sig .tc := ⟨.hbm, 585, rfl⟩
abbrev main_v457 : Ref sig .tc := ⟨.hbm, 586, rfl⟩
abbrev main_v458 : Ref sig .tc := ⟨.hbm, 587, rfl⟩
abbrev main_v459 : Ref sig .tc := ⟨.hbm, 588, rfl⟩
abbrev main_c_125 : Ref sig .tc := ⟨.hbm, 589, rfl⟩
abbrev main_v460 : Ref sig .tc := ⟨.hbm, 590, rfl⟩
abbrev main_v461 : Ref sig .tc := ⟨.hbm, 591, rfl⟩
abbrev main_c_126 : Ref sig .tc := ⟨.hbm, 592, rfl⟩
abbrev main_v462 : Ref sig .tc := ⟨.hbm, 593, rfl⟩
abbrev main_v463 : Ref sig .tc := ⟨.hbm, 594, rfl⟩
abbrev main_v464 : Ref sig .tc := ⟨.hbm, 595, rfl⟩
abbrev main_v465 : Ref sig .tc := ⟨.hbm, 596, rfl⟩
abbrev main_v466 : Ref sig .tc := ⟨.hbm, 597, rfl⟩
abbrev main_v467 : Ref sig .tc := ⟨.hbm, 598, rfl⟩
abbrev main_c_127 : Ref sig .tc := ⟨.hbm, 599, rfl⟩
abbrev main_v468 : Ref sig .tc := ⟨.hbm, 600, rfl⟩
abbrev main_v469 : Ref sig .tc := ⟨.hbm, 601, rfl⟩
abbrev main_c_128 : Ref sig .tc := ⟨.hbm, 602, rfl⟩
abbrev main_v470 : Ref sig .tc := ⟨.hbm, 603, rfl⟩
abbrev main_v471 : Ref sig .tc := ⟨.hbm, 604, rfl⟩
abbrev main_v472 : Ref sig .tc := ⟨.hbm, 605, rfl⟩
abbrev main_v473 : Ref sig .tc := ⟨.hbm, 606, rfl⟩
abbrev main_v474 : Ref sig .tc := ⟨.hbm, 607, rfl⟩
abbrev main_c_129 : Ref sig .tc := ⟨.hbm, 608, rfl⟩
abbrev main_v475 : Ref sig .tc := ⟨.hbm, 609, rfl⟩
abbrev main_v476 : Ref sig .tc := ⟨.hbm, 610, rfl⟩
abbrev main_c_130 : Ref sig .tc := ⟨.hbm, 611, rfl⟩
abbrev main_v477 : Ref sig .tc := ⟨.hbm, 612, rfl⟩
abbrev main_v478 : Ref sig .tc := ⟨.hbm, 613, rfl⟩
abbrev main_v479 : Ref sig .tc := ⟨.hbm, 614, rfl⟩
abbrev main_v480 : Ref sig .tc := ⟨.hbm, 615, rfl⟩
abbrev main_v481 : Ref sig .tc := ⟨.hbm, 616, rfl⟩
abbrev main_c_131 : Ref sig .tc := ⟨.hbm, 617, rfl⟩
abbrev main_v482 : Ref sig .tc := ⟨.hbm, 618, rfl⟩
abbrev main_v483 : Ref sig .tc := ⟨.hbm, 619, rfl⟩
abbrev main_c_132 : Ref sig .tc := ⟨.hbm, 620, rfl⟩
abbrev main_v484 : Ref sig .tc := ⟨.hbm, 621, rfl⟩
abbrev main_v485 : Ref sig .tc := ⟨.hbm, 622, rfl⟩
abbrev main_v486 : Ref sig .tc := ⟨.hbm, 623, rfl⟩
abbrev main_v487 : Ref sig .tc := ⟨.hbm, 624, rfl⟩
abbrev main_v488 : Ref sig .tc := ⟨.hbm, 625, rfl⟩
abbrev main_v489 : Ref sig .tc := ⟨.hbm, 626, rfl⟩
abbrev main_c_133 : Ref sig .tc := ⟨.hbm, 627, rfl⟩
abbrev main_v490 : Ref sig .tc := ⟨.hbm, 628, rfl⟩
abbrev main_v491 : Ref sig .tc := ⟨.hbm, 629, rfl⟩
abbrev main_c_134 : Ref sig .tc := ⟨.hbm, 630, rfl⟩
abbrev main_v492 : Ref sig .tc := ⟨.hbm, 631, rfl⟩
abbrev main_v493 : Ref sig .tc := ⟨.hbm, 632, rfl⟩
abbrev main_v494 : Ref sig .tc := ⟨.hbm, 633, rfl⟩
abbrev main_v495 : Ref sig .tc := ⟨.hbm, 634, rfl⟩
abbrev main_v496 : Ref sig .tc := ⟨.hbm, 635, rfl⟩
abbrev main_cst_135 : Ref sig .tc := ⟨.hbm, 636, rfl⟩
abbrev main_cst_136 : Ref sig .tc := ⟨.hbm, 637, rfl⟩
abbrev main_call0_v0 : Ref sig .tc := ⟨.hbm, 638, rfl⟩
abbrev main_call0_v1 : Ref sig .tc := ⟨.hbm, 639, rfl⟩
abbrev main_call0_v2 : Ref sig .tc := ⟨.hbm, 640, rfl⟩
abbrev main_call0_v3 : Ref sig .tc := ⟨.hbm, 641, rfl⟩
abbrev main_call0_v4 : Ref sig .tc := ⟨.hbm, 642, rfl⟩
abbrev main_v497 : Ref sig .tc := ⟨.hbm, 643, rfl⟩

abbrev nD : Nat := 1
abbrev τ : Topo := Topo.v7x

variable {F : FTy → Type} [FloatOps F]
-- ==== Proof.Finite.lean ====
/-
  The precondition, read back: where `finite` holds, no entry of the data or of the split parameters is an infinity.
-/
module

public import proofs.«01_k».proof.Pre_finite
public import Idealize.ShloMosaic.Lib.IdealHost
public import Idealize.ShloMosaic.Lib.ReduceAll
public import Idealize.ShloMosaic.Lib.Affine

@[expose] public section

noncomputable section

namespace Cert.Finite

open Idealize.ShloMosaic Cert.Pre_finite Cert.Pre_finite.Facts

/-- A number whose absolute value is below the infinity is not an infinity. -/
theorem of_abs_lt (v : EReal) (h : FloatOps.cmpf (F := Ideal) (φ := .f32) .olt (FloatOps.hostAbsf v) (FloatOps.ofBits .f32 0x7F800000#32) = 1#1) :
    v ≠ ⊤ ∧ v ≠ ⊥ := by
  have htop : Ideal.ofBits .f32 0x7F800000#32 = ⊤ := by simp [Ideal.ofBits, Ideal.ieee]
  change Ideal.cmp .olt (max v (-v)) (Ideal.ofBits .f32 0x7F800000#32) = 1#1 at h
  rw [htop] at h
  have hlt : max v (-v) < ⊤ := by
    by_contra hn
    simp [Ideal.cmp, hn] at h
  constructor
  · rintro rfl
    simp at hlt
  · rintro rfl
    simp at hlt

/-- Where the precondition holds, neither array has an infinity. -/
theorem entries [Facts] (x : FVec Ideal S8192x1024 .f32) (a : FVec Ideal S1023x1024 .f32) (h : fn x a = fun _ => 1#1) :
    (∀ i, x i ≠ ⊤ ∧ x i ≠ ⊥) ∧ ∀ i, a i ≠ ⊤ ∧ a i ≠ ⊥ := by
  haveI : Subsingleton S_.Idx := ⟨fun i j => funext fun k => k.elim0⟩
  have h0 := IntOp.andi_eq_one.1 (congrFun h (fun k => k.elim0))
  exact ⟨fun i => of_abs_lt _ (Host.reduce_andi_all _ _ reducesTo_S8192x1024_S_d0_1 h_S_ _ h0.1 i),
    fun i => of_abs_lt _ (Host.reduce_andi_all _ _ reducesTo_S1023x1024_S_d0_1 h_S_ _ h0.2 i)⟩

end Cert.Finite

end
-- ==== Proof.Tree.lean ====
/-
  The arithmetic of the tree, over the extended reals and apart from either program.

  A complete binary tree is numbered breadth first: node 0 is the root and node `n + 1` hangs under node `n / 2`. Every
  node but the root carries a score `e`. Three functions of the scores are compared here:

  * `pathMin e n`, the least of 1 and the scores on the way from the root to `n`;
  * `clipped e n`, the same recursion with every value raised to at least 0 as it goes down (what the kernel computes);
  * what is left of a table `q` after repeated rounds in which every odd node and then every even node is lowered to its
    parent's value (what the reference computes).

  `clipped_eq` says the second is the first raised to at least 0 once, at the end; `rounds_exact` says that after `t`
  rounds the table agrees with `pathMin` down to depth `t`.
-/
module

public import Mathlib.Data.EReal.Basic
public import Mathlib.Tactic.Ring
public import Mathlib.Tactic.Linarith

@[expose] public section

noncomputable section

namespace Cert.Tree

/-- The least of 1 and the scores on the way from the root to node `n`. -/
def pathMin (e : ℕ → EReal) : ℕ → EReal
  | 0 => 1
  | n + 1 => min (pathMin e (n / 2)) (e (n + 1))

/-- The same recursion, every value below the root raised to at least 0. -/
def clipped (e : ℕ → EReal) : ℕ → EReal
  | 0 => 1
  | n + 1 => max (min (clipped e (n / 2)) (e (n + 1))) 0

/-- No path minimum exceeds 1. -/
theorem pathMin_le_one (e : ℕ → EReal) (n : ℕ) : pathMin e n ≤ 1 := by
  induction n using Nat.strong_induction_on with
  | _ n ih =>
    cases n with
    | zero => rw [pathMin]
    | succ n => rw [pathMin]; exact (min_le_left _ _).trans (ih (n / 2) (by omega))

/-- Raising to 0 at every node is raising to 0 once, at the end. -/
theorem clipped_eq (e : ℕ → EReal) (n : ℕ) : clipped e n = max (pathMin e n) 0 := by
  induction n using Nat.strong_induction_on with
  | _ n ih =>
    cases n with
    | zero => rw [pathMin, clipped, max_eq_left zero_le_one]
    | succ n =>
      rw [pathMin, clipped, ih (n / 2) (by omega), max_min_distrib_right, max_min_distrib_right, max_assoc, max_self]

/-- Raising a path minimum to 0 and then lowering it to 1 only raises it: it never exceeds 1. -/
theorem clamp_pathMin (e : ℕ → EReal) (n : ℕ) : min 1 (max 0 (pathMin e n)) = clipped e n := by
  rw [clipped_eq, max_comm, min_eq_right]
  exact max_le (pathMin_le_one e n) zero_le_one

/-- A child's path minimum is its parent's, lowered to the child's score. -/
theorem pathMin_pos (e : ℕ → EReal) {n : ℕ} (h : 0 < n) : pathMin e n = min (pathMin e ((n - 1) / 2)) (e n) := by
  obtain ⟨k, rfl⟩ := Nat.exists_eq_add_of_lt h
  simp only [Nat.zero_add, Nat.add_sub_cancel]
  rw [pathMin]

/-- A child's clipped value, from its parent's. -/
theorem clipped_pos (e : ℕ → EReal) {n : ℕ} (h : 0 < n) :
    clipped e n = max (min (clipped e ((n - 1) / 2)) (e n)) 0 := by
  obtain ⟨k, rfl⟩ := Nat.exists_eq_add_of_lt h
  simp only [Nat.zero_add, Nat.add_sub_cancel]
  rw [clipped]

/-- One half of a round: the nodes of parity `b` (other than the root) are lowered to their parents' values. -/
def lower (b : ℕ) (q : ℕ → EReal) (n : ℕ) : EReal :=
  if 0 < n ∧ n % 2 = b then min (q n) (q ((n - 1) / 2)) else q n

/-- A round: the odd nodes (the left children), then the even ones (the right children). -/
def round (q : ℕ → EReal) : ℕ → EReal := lower 0 (lower 1 q)

/-- A table between the path minima and the scores, 1 at the root: what the reference keeps true throughout. -/
structure Between (e q : ℕ → EReal) : Prop where
  root : q 0 = 1
  above : ∀ n, pathMin e n ≤ q n
  below : ∀ n, 0 < n → q n ≤ e n

/-- Lowering half of the nodes keeps the table between. -/
theorem Between.lower {e q : ℕ → EReal} (h : Between e q) (b : ℕ) : Between e (lower b q) where
  root := by unfold Tree.lower; rw [if_neg (by omega)]; exact h.root
  above n := by
    unfold Tree.lower
    split
    · next hn =>
      refine le_min (h.above n) (le_trans ?_ (h.above _))
      rw [pathMin_pos e hn.1]; exact min_le_left _ _
    · exact h.above n
  below n hn := by
    unfold Tree.lower
    split
    · exact (min_le_left _ _).trans (h.below n hn)
    · exact h.below n hn

/-- The table agrees with the path minima at the nodes of depth at most `t`. -/
def Exact (e q : ℕ → EReal) (t : ℕ) : Prop := ∀ n, n + 1 < 2 ^ (t + 1) → q n = pathMin e n

/-- A node whose parent already has its path minimum gets its own when it is lowered. -/
theorem lower_exact_at {e q : ℕ → EReal} (h : Between e q) {n : ℕ} (hn : 0 < n)
    (hp : q ((n - 1) / 2) = pathMin e ((n - 1) / 2)) : min (q n) (q ((n - 1) / 2)) = pathMin e n := by
  refine le_antisymm ?_ ?_
  · rw [pathMin_pos e hn, hp]
    exact le_min (min_le_right _ _) ((min_le_left _ _).trans (h.below n hn))
  · refine le_min (h.above n) ?_
    rw [pathMin_pos e hn, hp]; exact min_le_left _ _

/-- Lowering keeps what is exact. -/
theorem Exact.lower {e q : ℕ → EReal} {t : ℕ} (h : Between e q) (hx : Exact e q t) (b : ℕ) : Exact e (lower b q) t := by
  intro n hn
  unfold Tree.lower
  split
  · next hc => exact lower_exact_at h hc.1 (hx _ (by omega))
  · exact hx n hn

/-- A round makes one more level exact. -/
theorem Exact.round {e q : ℕ → EReal} {t : ℕ} (h : Between e q) (hx : Exact e q t) : Exact e (round q) (t + 1) := by
  have h1 := h.lower 1
  have hx1 := hx.lower h 1
  intro n hn
  have hpar : (n - 1) / 2 + 1 < 2 ^ (t + 1) := by
    rw [pow_succ] at hn
    have := Nat.one_lt_two_pow (n := t + 1) (by omega)
    omega
  by_cases h0 : n = 0
  · subst h0
    exact (h1.lower 0).root.trans (by rw [pathMin])
  · have hpos : 0 < n := by omega
    show Tree.lower 0 (Tree.lower 1 q) n = _
    by_cases he : n % 2 = 0
    · have : Tree.lower 0 (Tree.lower 1 q) n = min (Tree.lower 1 q n) (Tree.lower 1 q ((n - 1) / 2)) :=
        if_pos ⟨hpos, he⟩
      rw [this]
      exact lower_exact_at h1 hpos (hx1 _ hpar)
    · have h0' : Tree.lower 0 (Tree.lower 1 q) n = Tree.lower 1 q n :=
        if_neg (by omega)
      have h1' : Tree.lower 1 q n = min (q n) (q ((n - 1) / 2)) :=
        if_pos ⟨hpos, by omega⟩
      rw [h0', h1']
      exact lower_exact_at h hpos (hx _ hpar)

/-- Rounds keep the table between. -/
theorem between_iterate {e q : ℕ → EReal} (h : Between e q) (t : ℕ) : Between e (round^[t] q) := by
  induction t with
  | zero => exact h
  | succ t ih => rw [Function.iterate_succ_apply']; exact (ih.lower 1).lower 0

/-- After `t` rounds a table that was between agrees with the path minima at every node of depth at most `t`. -/
theorem rounds_exact {e q : ℕ → EReal} (h : Between e q) (t : ℕ) : Exact e (round^[t] q) t := by
  induction t with
  | zero =>
    intro n hn
    have : n = 0 := by simp at hn; omega
    subst this
    exact h.root.trans (by rw [pathMin])
  | succ t ih => rw [Function.iterate_succ_apply']; exact ih.round (between_iterate h t)

/-- The reference's first two passes over a table of 1s: a left child gets its score lowered to 1, a right child its score
    lowered to its parent's new value. -/
def start (e : ℕ → EReal) (n : ℕ) : EReal :=
  if 0 < n ∧ n % 2 = 0 then min (if (n - 1) / 2 % 2 = 1 then min 1 (e ((n - 1) / 2)) else 1) (e n)
  else if n % 2 = 1 then min 1 (e n) else 1

/-- After those two passes the table lies between the path minima and the scores. -/
theorem start_between (e : ℕ → EReal) : Between e (start e) where
  root := by unfold start; rw [if_neg (by omega), if_neg (by omega)]
  above n := by
    unfold start
    split
    · next hn =>
      rw [pathMin_pos e hn.1]
      refine min_le_min ?_ le_rfl
      split
      · next hp =>
        rw [pathMin_pos e (n := (n - 1) / 2) (by omega)]
        exact min_le_min (pathMin_le_one e _) le_rfl
      · exact pathMin_le_one e _
    · split
      · next hn =>
        rw [pathMin_pos e (n := n) (by omega)]
        exact min_le_min (pathMin_le_one e _) le_rfl
      · exact pathMin_le_one e n
  below n hn := by
    unfold start
    split
    · exact min_le_right _ _
    · split
      · exact min_le_right _ _
      · omega

/-- Ten rounds settle every one of the 2047 nodes. -/
theorem ten_rounds (e : ℕ → EReal) {n : ℕ} (h : n < 2047) : round^[10] (start e) n = pathMin e n :=
  rounds_exact (start_between e) 10 n (by norm_num; omega)

end Cert.Tree

end
-- ==== Proof.Columns.lean ====
/-
  Reading columns of a matrix by a list of column numbers, and setting them: the gather and the scatter that `q[:, idx]` and
  `q.at[:, idx].set(v)` become, read at an entry, for any sizes; and a list laid out as the one column of a matrix.
-/
module

public import Idealize.ShloMosaic.Lib.Routing.OpsSet
public import Idealize.ShloMosaic.Lib.ValueIdx
public import Idealize.ShloMosaic.Lib.Pipeline.Value

@[expose] public section

namespace Cert.Columns

open Idealize.ShloMosaic Idealize.ShloMosaic.ValueIdx

variable {α : Type} {A N n : ℕ}

/-- The dimension numbers of `x[:, idx]`: whole columns of `x`, one for each of the `n` column numbers. -/
abbrev takeDims (wf : GatherDims.WF ⟨2, ![A, N]⟩ ⟨2, ![n, 1]⟩ ⟨2, ![A, n]⟩ [0] [1] [] [1] [] 1 ![A, 1]) :
    GatherDims ⟨2, ![A, N]⟩ ⟨2, ![n, 1]⟩ ⟨2, ![A, n]⟩ where
  offsetDims := [0]
  collapsedSliceDims := [1]
  operandBatchingDims := []
  startIndicesBatchingDims := []
  startIndexMap := [1]
  indexVectorDim := 1
  sliceSizes := ![A, 1]
  wf := wf

/-- The dimension numbers of `x.at[:, idx].set(v)`: whole columns of `x` set, one for each of the `n` column numbers. -/
abbrev setDims (wf : ScatterDims.WF ⟨2, ![A, N]⟩ ⟨2, ![n, 1]⟩ ⟨2, ![A, n]⟩ [0] [1] [1] 1) :
    ScatterDims ⟨2, ![A, N]⟩ ⟨2, ![n, 1]⟩ ⟨2, ![A, n]⟩ where
  updateWindowDims := [0]
  insertedWindowDims := [1]
  scatterDimsToOperandDims := [1]
  indexVectorDim := 1
  wf := wf

/-- `x[:, idx]` at row `y` and place `c`: row `y` of the column that `idx` names at `c`. -/
theorem take_apply (wf) (x : (⟨2, ![A, N]⟩ : Shape).Idx → α) (idx : IVec ⟨2, ![n, 1]⟩ 32) (y : Fin A) (c : Fin n) (b : Fin N)
    (hb : (idx (ix2 c (0 : Fin 1))).toInt = (b.val : ℤ)) : Host.gather (takeDims wf) x idx (ix2 y c) = x (ix2 y b) := by
  unfold Host.gather
  refine congrArg x (funext fun a => Fin.ext ?_)
  have hsi : ∀ p, (takeDims wf).siIdx (ix2 y c) p = ix2 c (0 : Fin 1) := fun p => by
    have hp : p.val = 0 := Nat.lt_one_iff.1 p.isLt
    funext a
    match a with
    | ⟨0, _⟩ => rfl
    | ⟨1, _⟩ => exact Fin.ext hp
  match a with
  | ⟨0, _⟩ =>
    show (takeDims wf).start (ix2 y c) idx 0 + (takeDims wf).batchCoord (ix2 y c) 0 + (takeDims wf).offCoord (ix2 y c) 0 = y.val
    have e1 : (takeDims wf).start (ix2 y c) idx 0 = 0 := rfl
    have e2 : (takeDims wf).batchCoord (ix2 y c) 0 = 0 := rfl
    have e3 : (takeDims wf).offCoord (ix2 y c) 0 = y.val := rfl
    rw [e1, e2, e3]; omega
  | ⟨1, _⟩ =>
    show (takeDims wf).start (ix2 y c) idx 1 + (takeDims wf).batchCoord (ix2 y c) 1 + (takeDims wf).offCoord (ix2 y c) 1 = b.val
    have e1 : (takeDims wf).start (ix2 y c) idx 1 = min (idx (ix2 c (0 : Fin 1))).toInt.toNat (N - 1) := by
      rw [← hsi ⟨0, Nat.zero_lt_one⟩]; rfl
    have e2 : (takeDims wf).batchCoord (ix2 y c) 1 = 0 := rfl
    have e3 : (takeDims wf).offCoord (ix2 y c) 1 = 0 := rfl
    have := b.isLt
    rw [e1, e2, e3, hb]; omega

/-- Update `(y', c)` of `x.at[:, idx].set(v)` lands at row `y` of column `b` exactly when `y'` is `y` and `idx` names `b` at `c`. -/
theorem lands_iff (wf) (idx : IVec ⟨2, ![n, 1]⟩ 32) (y' y : Fin A) (c : Fin n) (b : Fin N) :
    (setDims wf).resultIdx? (ix2 y' c) idx = some (ix2 y b) ↔ y' = y ∧ (idx (ix2 c (0 : Fin 1))).toInt = (b.val : ℤ) := by
  have hsi : ∀ p, (setDims wf).siIdx (ix2 y' c) p = ix2 c (0 : Fin 1) := fun p => by
    have hp : p.val = 0 := Nat.lt_one_iff.1 p.isLt
    funext a
    match a with
    | ⟨0, _⟩ => rfl
    | ⟨1, _⟩ => exact Fin.ext hp
  have e0 : (setDims wf).start (ix2 y' c) idx 0 = 0 := rfl
  have e1 : (setDims wf).start (ix2 y' c) idx 1 = (idx (ix2 c (0 : Fin 1))).toInt := by
    rw [← hsi ⟨0, Nat.zero_lt_one⟩]; rfl
  have e2 : (setDims wf).window (ix2 y' c) 0 = y'.val := rfl
  have e3 : (setDims wf).window (ix2 y' c) 1 = 0 := rfl
  rw [Routing.resultIdx?_ix2, e0, e1, e2, e3, Fin.ext_iff]
  omega

/-- `x.at[:, idx].set(v)` at an entry of a column that `idx` names once, at `c`: the entry of `v`. -/
theorem set_hit (wf) (x : (⟨2, ![A, N]⟩ : Shape).Idx → α) (idx : IVec ⟨2, ![n, 1]⟩ 32) (v : (⟨2, ![A, n]⟩ : Shape).Idx → α)
    (y : Fin A) (c : Fin n) (b : Fin N) (hb : (idx (ix2 c (0 : Fin 1))).toInt = (b.val : ℤ))
    (hu : ∀ c', (idx (ix2 c' (0 : Fin 1))).toInt = (b.val : ℤ) → c' = c) :
    Host.scatter (setDims wf) (fun _ b => b) x idx v (ix2 y b) = v (ix2 y c) := by
  refine Routing.scatter_set_hit (setDims wf) x idx v (ix2 y b) _ (fun k hk => ?_) (ix2 y c) ((lands_iff wf idx y y c b).2 ⟨rfl, hb⟩)
  obtain ⟨y', c', rfl⟩ : ∃ (y' : Fin A) (c' : Fin n), k = ix2 y' c' := ⟨k 0, k 1, eq_ix2 k⟩
  obtain ⟨h0, h1⟩ := (lands_iff wf idx y' y c' b).1 hk
  rw [h0, hu c' h1]

/-- `x.at[:, idx].set(v)` at an entry of a column that `idx` does not name: the entry of `x`. -/
theorem set_miss (wf) (x : (⟨2, ![A, N]⟩ : Shape).Idx → α) (idx : IVec ⟨2, ![n, 1]⟩ 32) (v : (⟨2, ![A, n]⟩ : Shape).Idx → α)
    (y : Fin A) (b : Fin N) (h : ∀ c, (idx (ix2 c (0 : Fin 1))).toInt ≠ (b.val : ℤ)) :
    Host.scatter (setDims wf) (fun _ b => b) x idx v (ix2 y b) = x (ix2 y b) := by
  refine Routing.scatter_set_miss (setDims wf) x idx v (ix2 y b) fun k hk => ?_
  obtain ⟨y', c', rfl⟩ : ∃ (y' : Fin A) (c' : Fin n), k = ix2 y' c' := ⟨k 0, k 1, eq_ix2 k⟩
  exact h c' ((lands_iff wf idx y' y c' b).1 hk).2

/-- A vector laid out as one column. -/
theorem column_apply {β : Type} {w : ℕ} (h : (⟨1, ![w]⟩ : Shape).BroadcastsInDim ⟨2, ![w, 1]⟩ ![0]) (v : (⟨1, ![w]⟩ : Shape).Idx → β) (i : Fin w) :
    broadcastInDim ⟨2, ![w, 1]⟩ ![0] h v (ix2 i (0 : Fin 1)) = v (ix1 i) := by
  refine broadcastInDim_apply ![0] h v _ (ix1 i) fun k => ?_
  match k with
  | ⟨0, _⟩ =>
    show i.val = if w = 1 then 0 else i.val
    have hi := i.isLt
    split <;> omega

end Cert.Columns
-- ==== Proof.Scores.lean ====
/-
  The score of every node of the tree, from the data and the split parameters: a left child (an odd node) has its parent's
  product with the row of data, a right child (an even node) the negative of it.
-/
module

public import Idealize.ShloMosaic.Lib.ValueIdx
public import Idealize.ShloMosaic.Lib.IdealHost

@[expose] public section

noncomputable section

namespace Cert.Scores

open Idealize.ShloMosaic Idealize.ShloMosaic.ValueIdx
open scoped BigOperators

variable (x : FVec Ideal ⟨2, ![8192, 1024]⟩ .f32) (a : FVec Ideal ⟨2, ![1023, 1024]⟩ .f32)

/-- The product of row `r` of the data with the parameters of split node `n` (0 where there is no such node). -/
def split (r : Fin 8192) (n : ℕ) : EReal :=
  if h : n < 1023 then ∑ t : Fin 1024, x (ix2 r t) * a (ix2 ⟨n, h⟩ t) else 0

/-- The score of node `n`, for row `r` of the data. -/
def edge (r : Fin 8192) (n : ℕ) : EReal :=
  if n % 2 = 1 then split x a r ((n - 1) / 2) else -split x a r ((n - 1) / 2)

/-- A sum of products of numbers that are not infinite, the second factors all negated, is the sum negated. -/
theorem sum_mul_neg {n : ℕ} (u v : Fin n → EReal) (hu : ∀ t, u t ≠ ⊤ ∧ u t ≠ ⊥) (hv : ∀ t, v t ≠ ⊤ ∧ v t ≠ ⊥) :
    ∑ t, u t * (v t * (-1)) = -∑ t, u t * v t := by
  have e1 : ∀ t, u t * (v t * (-1)) = ((-((u t).toReal * (v t).toReal) : ℝ) : EReal) := fun t => by
    conv_lhs => rw [← EReal.coe_toReal (hu t).1 (hu t).2, ← EReal.coe_toReal (hv t).1 (hv t).2]
    norm_cast
    simp
  have e2 : ∀ t, u t * v t = (((u t).toReal * (v t).toReal : ℝ) : EReal) := fun t => by
    conv_lhs => rw [← EReal.coe_toReal (hu t).1 (hu t).2, ← EReal.coe_toReal (hv t).1 (hv t).2]
    norm_cast
  rw [Finset.sum_congr rfl fun t _ => e1 t, Finset.sum_congr rfl fun t _ => e2 t]
  have hs : ∀ f : Fin n → ℝ, ∑ t, ((f t : ℝ) : EReal) = ((∑ t, f t : ℝ) : EReal) := fun f =>
    (map_sum (⟨⟨fun z : ℝ => (z : EReal), EReal.coe_zero⟩, EReal.coe_add⟩ : ℝ →+ EReal) f Finset.univ).symm
  rw [hs, hs, Finset.sum_neg_distrib, EReal.coe_neg]

end Cert.Scores

end
-- ==== Proof.Reference.lean ====
/-
  What the reference leaves: at row `r` and node `n`, the clipped path minimum of the node for the scores of row `r`.

  Every pass of the reference is one gather of the children's columns, one of the parents', the smaller of the two, and one
  scatter back over the children's columns. Read at an entry it is `Tree.lower`. Two passes that start from a table of
  ones and the scores give `Tree.start`, ten rounds of two passes settle every node (`Tree.ten_rounds`), and the clamp to
  [0, 1] at the end gives the clipped path minimum (`Tree.clamp_pathMin`).
-/
module

public import proofs.«01_k».proof.Proof.Gen.ReferenceIdeal.Run
public import proofs.«01_k».proof.Proof.Tree
public import proofs.«01_k».proof.Proof.Columns
public import proofs.«01_k».proof.Proof.Scores
public import Idealize.ShloMosaic.Lib.StackMember
public import Idealize.ShloMosaic.Lib.ValueLayout

@[expose] public section

noncomputable section

namespace Cert.Reference

open Cert.ReferenceIdeal Cert.ReferenceIdeal.Gen Cert.ReferenceIdeal.Value Idealize.ShloMosaic Idealize.ShloMosaic.ValueIdx
  Idealize.ShloMosaic.StableHlo
open scoped BigOperators

/-! ## The passes, read at an entry -/

/-- Column numbers as an index reads them: a negative one counted from the end of the `w` columns, and one number a row. -/
abbrev wrap (c : IVec S1023 32) (w : BitVec 32) : IVec S1023x1 32 :=
  broadcastInDim S1023x1 ![0] bcast_S1023_S1023x1_0
    (select (cmpi .slt c (broadcastInDim S1023 ![] bcast_S_S1023 (constantI S_ 32 0#32)))
      (addi c (broadcastInDim S1023 ![] bcast_S_S1023 (constantI S_ 32 w))) c)

/-- A list of column numbers: place `i` holds `f i`. -/
def Lists (c : IVec S1023 32) (f : ℕ → ℕ) : Prop := ∀ i : Fin 1023, c (ix1 i) = BitVec.ofNat 32 (f i.val)

/-- A number below 2³¹ is not negative, so the index is that number. -/
theorem wrap_apply {c : IVec S1023 32} {f : ℕ → ℕ} (h : Lists c f) (hf : ∀ i : Fin 1023, f i.val < 2 ^ 31) (w : BitVec 32) (i : Fin 1023) :
    (wrap c w (ix2 i (0 : Fin 1))).toInt = (f i.val : ℤ) := by
  have e : wrap c w (ix2 i (0 : Fin 1)) = Scalar.select (BitVec.ofBool ((c (ix1 i)).slt 0#32)) (c (ix1 i) + w) (c (ix1 i)) :=
    Columns.column_apply _ _ i
  have ht : (BitVec.ofNat 32 (f i.val)).toInt = (f i.val : ℤ) := Predicate.toInt_ofNat_small _ (hf i)
  have hn : (BitVec.ofNat 32 (f i.val)).slt 0#32 = false := by
    rw [BitVec.slt, ht]
    exact decide_eq_false (by simp)
  rw [e, h i, hn]
  exact ht

/-- The table holds `g` at every row and node. -/
def Holds (q : FVec Ideal S8192x2047 .f32) (g : Fin 8192 → ℕ → EReal) : Prop := ∀ (r : Fin 8192) (k : Fin 2047), q (ix2 r k) = g r k.val

/-- The children's columns set to the columns of `v`, `o` being 1 for the left children and 2 for the right. -/
theorem set_children {c : IVec S1023 32} {o : ℕ} (ho : o = 1 ∨ o = 2) (hc : Lists c fun i => 2 * i + o) (q : FVec Ideal S8192x2047 .f32)
    (v : FVec Ideal S8192x1023 .f32) (r : Fin 8192) (k : Fin 2047) :
    Host.scatter scatter_S8192x2047_S1023x1_S8192x1023_0_1_1_1 (fun _ b => b) q (wrap c 2047#32) v (ix2 r k)
      = if h : 0 < k.val ∧ k.val % 2 = o % 2 then v (ix2 r ⟨(k.val - 1) / 2, by omega⟩) else q (ix2 r k) := by
  have hw := wrap_apply hc (fun i => by have := i.isLt; omega) 2047#32
  split
  · next h =>
    refine Columns.set_hit _ q (wrap c 2047#32) v r _ k ((hw _).trans (by push_cast; omega)) fun c' h' => Fin.ext ?_
    rw [hw] at h'
    push_cast at h'
    show c'.val = (k.val - 1) / 2
    omega
  · next h =>
    refine Columns.set_miss _ q (wrap c 2047#32) v r k fun c' h' => h ?_
    rw [hw] at h'
    push_cast at h'
    omega

/-- The columns of a table of nodes that a list names. -/
theorem take_nodes {c : IVec S1023 32} {f : ℕ → ℕ} (hc : Lists c f) (q : FVec Ideal S8192x2047 .f32) (r : Fin 8192) (i : Fin 1023)
    (hf : ∀ i : Fin 1023, f i.val < 2047) :
    Host.gather gather_S8192x2047_S1023x1_S8192x1023_0_1_n_n_1_1_81921 q (wrap c 2047#32) (ix2 r i) = q (ix2 r ⟨f i.val, hf i⟩) :=
  Columns.take_apply _ q (wrap c 2047#32) r i ⟨f i.val, hf i⟩ (wrap_apply hc (fun i => by have := hf i; omega) 2047#32 i)

/-- The columns of a table of split nodes that the list of all of them names. -/
theorem take_splits {c : IVec S1023 32} (hc : Lists c fun i => i) (q : FVec Ideal S8192x1023 .f32) (r : Fin 8192) (i : Fin 1023) :
    Host.gather gather_S8192x1023_S1023x1_S8192x1023_0_1_n_n_1_1_81921 q (wrap c 1023#32) (ix2 r i) = q (ix2 r i) :=
  Columns.take_apply _ q (wrap c 1023#32) r i i (wrap_apply hc (fun i => by have := i.isLt; omega) 1023#32 i)

/-- One pass of a round: the children's columns lowered to their parents'. -/
abbrev pass (c p : IVec S1023 32) (q : FVec Ideal S8192x2047 .f32) : FVec Ideal S8192x2047 .f32 :=
  Host.scatter scatter_S8192x2047_S1023x1_S8192x1023_0_1_1_1 (fun _ b => b) q (wrap c 2047#32)
    (minimumf (Host.gather gather_S8192x2047_S1023x1_S8192x1023_0_1_n_n_1_1_81921 q (wrap c 2047#32))
      (Host.gather gather_S8192x2047_S1023x1_S8192x1023_0_1_n_n_1_1_81921 q (wrap p 2047#32)))

/-- A pass does to every row what `Tree.lower` does to a table of nodes. -/
theorem pass_holds {c p : IVec S1023 32} {o : ℕ} (ho : o = 1 ∨ o = 2) (hc : Lists c fun i => 2 * i + o) (hp : Lists p fun i => i)
    {q : FVec Ideal S8192x2047 .f32} {g : Fin 8192 → ℕ → EReal} (h : Holds q g) :
    Holds (pass c p q) fun r => Tree.lower (o % 2) (g r) := by
  intro r k
  refine (set_children ho hc q _ r k).trans ?_
  unfold Tree.lower
  beta_reduce
  split
  · next hk =>
    rw [minimumf_apply, take_nodes hc q r _ (fun i => by have := i.isLt; omega),
      take_nodes hp q r _ (fun i => by have := i.isLt; omega), h, h]
    refine congrArg₂ _ (congrArg (g r) ?_) rfl
    show 2 * ((k.val - 1) / 2) + o = k.val
    omega
  · exact h r k

/-! ## The reference's own tables -/

variable (V : Valuation τ sig (Elt Ideal))

/-- The data and the split parameters. -/
abbrev dataOf : FVec Ideal S8192x1024 .f32 := V (Proc.devRef .tc main_arg0)
abbrev paramsOf : FVec Ideal S1023x1024 .f32 := V (Proc.devRef .tc main_arg1)

/-- The list of the split nodes, and those of their left and right children. -/
theorem splits_list : Lists (res_main_v0 V) fun i => i := fun _ => rfl

/-- The left child of split node `i` is node `2 i + 1`. -/
theorem lefts_list : Lists (res_main_v4 V) fun i => 2 * i + 1 := fun i => by
  show 2#32 * BitVec.ofNat 32 i.val + 1#32 = _
  rw [BitVec.ofNat_add, BitVec.ofNat_mul]

/-- The right child of split node `i` is node `2 i + 2`. -/
theorem rights_list : Lists (res_main_v8 V) fun i => 2 * i + 2 := fun i => by
  show 2#32 * BitVec.ofNat 32 i.val + 2#32 = _
  rw [BitVec.ofNat_add, BitVec.ofNat_mul]

/-- The products of the data with the split parameters. -/
theorem products_apply (r : Fin 8192) (i : Fin 1023) : (res_main_v10 V : FVec Ideal S8192x1023 .f32) (ix2 r i) = Scores.split (dataOf V) (paramsOf V) r i.val := by
  refine (StackMember.dotGeneral_plain_apply none (dataOf V) _ r i).trans ?_
  unfold Scores.split
  rw [dif_pos i.isLt]
  refine Finset.sum_congr rfl fun t _ => ?_
  rw [transpose_ix2_apply]

/-- After the first two passes every row holds `Tree.start` of its scores. -/
theorem start_holds : Holds (res_main_v56 V) fun r => Tree.start (Scores.edge (dataOf V) (paramsOf V) r) := by
  have h1 : ∀ y : S8192x2047.Idx, (res_main_v11 V : FVec Ideal S8192x2047 .f32) y = (1 : EReal) := fun y => Ideal.ofBits_one_f32
  have h33 : Holds (res_main_v33 V) fun r n => if n % 2 = 1 then min 1 (Scores.edge (dataOf V) (paramsOf V) r n) else 1 := by
    intro r k
    refine (set_children (Or.inl rfl) (lefts_list V) _ _ r k).trans ?_
    beta_reduce
    split
    · next hk =>
      rw [if_pos hk.2, minimumf_apply, take_nodes (splits_list V) _ r _ (fun i => by have := i.isLt; omega), h1,
        take_splits (splits_list V), products_apply, Scores.edge, if_pos hk.2]
    · next hk => exact (h1 _).trans (if_neg (show ¬k.val % 2 = 1 from fun h => hk ⟨by omega, by omega⟩)).symm
  intro r k
  refine (set_children (Or.inr rfl) (rights_list V) _ _ r k).trans ?_
  unfold Tree.start
  beta_reduce
  split
  · next hk =>
    rw [minimumf_apply, take_nodes (splits_list V) _ r _ (fun i => by have := i.isLt; omega), h33]
    refine congrArg₂ _ rfl ?_
    show -(Host.gather gather_S8192x1023_S1023x1_S8192x1023_0_1_n_n_1_1_81921 (res_main_v10 V) (wrap (res_main_v0 V) 1023#32) (ix2 r _) : EReal) = _
    rw [take_splits (splits_list V), products_apply, Scores.edge, if_neg (show ¬k.val % 2 = 1 by omega)]
  · exact h33 r k

/-- A round, of a pass over the left children and one over the right, on a table after `t` of them. -/
theorem round_holds {q : FVec Ideal S8192x2047 .f32} {g : Fin 8192 → ℕ → EReal} {t : ℕ} (h : Holds q fun r => Tree.round^[t] (g r)) :
    Holds (pass (res_main_v8 V) (res_main_v0 V) (pass (res_main_v4 V) (res_main_v0 V) q)) fun r => Tree.round^[t + 1] (g r) := by
  intro r k
  beta_reduce
  rw [Function.iterate_succ_apply']
  exact pass_holds (Or.inr rfl) (rights_list V) (splits_list V) (pass_holds (Or.inl rfl) (lefts_list V) (splits_list V) h) r k

/-- What the reference returns, read at row `r` and node `k`. -/
theorem result_apply (r : Fin 8192) (k : Fin 2047) :
    (val11 V (no_index (Proc.devRef .tc main_v497)) : FVec Ideal S8192x2047 .f32) (ix2 r k) = Tree.clipped (Scores.edge (dataOf V) (paramsOf V) r) k.val := by
  have h0 : Holds (res_main_v56 V) fun r => Tree.round^[0] (Tree.start (Scores.edge (dataOf V) (paramsOf V) r)) := start_holds V
  have h1 : Holds (res_main_v100 V) _ := round_holds V h0
  have h2 : Holds (res_main_v144 V) _ := round_holds V h1
  have h3 : Holds (res_main_v188 V) _ := round_holds V h2
  have h4 : Holds (res_main_v232 V) _ := round_holds V h3
  have h5 : Holds (res_main_v276 V) _ := round_holds V h4
  have h6 : Holds (res_main_v320 V) _ := round_holds V h5
  have h7 : Holds (res_main_v364 V) _ := round_holds V h6
  have h8 : Holds (res_main_v408 V) _ := round_holds V h7
  have h9 : Holds (res_main_v452 V) _ := round_holds V h8
  have h10 : Holds (pass (res_main_v8 V) (res_main_v0 V) (res_main_v474 V)) _ := round_holds V h9
  rw [val11_main_v497, minimumf_apply, maximumf_apply]
  refine Eq.trans ?_ (Tree.clamp_pathMin _ k.val)
  refine congrArg₂ _ Ideal.ofBits_one_f32 (congrArg₂ _ Ideal.ofBits_zero_f32 ?_)
  exact (h10 r k).trans (Tree.ten_rounds _ k.isLt)

end Cert.Reference

end
-- ==== Proof.Level.lean ====
/-
  One level of the tree as the kernel computes it, at any width, and what it holds.

  The kernel goes down the tree one level at a time. A level of `L` nodes is kept as a 1024 × `L` array whose columns
  are rotated by one place: column `k` is node `L - 1 + (k + 1) mod L`. The next level, of `M = 2 L` nodes, is got from it by
  one product with an `L` × `M` matrix of zeros and ones that copies each parent's column to its two children
  (`parentWords` says which), lowered to the scores and raised to 0 (`levelOp`). `levelOp_holds` says that if the
  level above holds the clipped path minima of its nodes, and the scores are those of the nodes of the new level, then so
  does the new level.
-/
module

public import proofs.«01_k».proof.Proof.Tree
public import Idealize.ShloMosaic.Lib.MatmulPlain
public import Idealize.ShloMosaic.Lib.ValueIdx
public import Idealize.ShloMosaic.Lib.ValueLayout
public import Idealize.ShloMosaic.Lib.IdealHost

@[expose] public section

noncomputable section

namespace Cert.Level

open Idealize.ShloMosaic Idealize.ShloMosaic.ValueIdx
open scoped BigOperators

/-! ## Which parent a column has -/

/-- The remainder of every entry by the word `w`, with the sign of `w`: the signed remainder, put right where its sign is not `w`'s. -/
def modWords {s : Shape} (hs : s.Broadcasts s) (x : IVec s 32) (w : BitVec 32) : IVec s 32 :=
  select
    (andi (xori (cmpi .slt (remsi x (broadcast s (Scalar.select (Scalar.cmpi .eq w 0#32) 1#32 w))) (broadcast s 0#32))
        (broadcastTo s (broadcast s (Scalar.cmpi .slt (Scalar.select (Scalar.cmpi .eq w 0#32) 1#32 w) 0#32)) hs))
      (cmpi .ne (remsi x (broadcast s (Scalar.select (Scalar.cmpi .eq w 0#32) 1#32 w))) (broadcast s 0#32)))
    (addi (remsi x (broadcast s (Scalar.select (Scalar.cmpi .eq w 0#32) 1#32 w)))
      (broadcast s (Scalar.select (Scalar.cmpi .eq w 0#32) 1#32 w)))
    (remsi x (broadcast s (Scalar.select (Scalar.cmpi .eq w 0#32) 1#32 w)))

/-- The half of every entry, rounded down: the signed quotient by 2, lowered by one where the signs differ and something was left over. -/
def halfWords {s : Shape} (x : IVec s 32) : IVec s 32 :=
  select
    (andi
      (cmpi .ne
        (subi (extui 32 (cmpi .sgt x (broadcast s 0#32)) (by decide)) (extui 32 (cmpi .slt x (broadcast s 0#32)) (by decide)))
        (broadcast s (Scalar.subi (Scalar.extui (Scalar.cmpi .sgt 2#32 0#32)) (Scalar.extui (Scalar.cmpi .slt 2#32 0#32)))))
      (cmpi .ne (remsi x (broadcast s 2#32)) (broadcast s 0#32)))
    (subi (divsi x (broadcast s 2#32)) (broadcast s 1#32))
    (divsi x (broadcast s 2#32))

/-- At every place of an array with columns numbered `c`: the column of the level above that holds the parent of column
    `c`'s node, the widths of the two levels being the words `lw` and `mw`. -/
def parentWords {s : Shape} (hs : s.Broadcasts s) (c : IVec s 32) (lw mw : BitVec 32) : IVec s 32 :=
  modWords hs (subi (halfWords (modWords hs (addi c (broadcast s 1#32)) mw)) (broadcast s 1#32)) lw

/-- The shape of a single element. -/
abbrev S1 : Shape := ⟨1, ![1]⟩

/-- The parent's column for one column number. -/
def parentWord (k lw mw : BitVec 32) : BitVec 32 :=
  parentWords (s := S1) (by decide) (fun _ => k) lw mw (ix1 0)

/-- The parent's column at a place depends on the column number there alone. -/
theorem parentWords_apply {s : Shape} (hs : s.Broadcasts s) (c : IVec s 32) (lw mw : BitVec 32) (i : s.Idx) :
    parentWords hs c lw mw i = parentWord (c i) lw mw := rfl

/-- On each of the ten levels, for each column: the parent's column is the rotated place of the parent. -/
theorem parentWord_eq : ∀ d : Fin 10, ∀ k : Fin (2 ^ (d.val + 1)),
    parentWord (BitVec.ofNat 32 k.val) (BitVec.ofNat 32 (2 ^ d.val)) (BitVec.ofNat 32 (2 ^ (d.val + 1)))
      = BitVec.ofNat 32 (((k.val + 1) % 2 ^ (d.val + 1) / 2 + (2 ^ d.val - 1)) % 2 ^ d.val) := by
  decide +kernel

/-! ## The scores and the step from one level to the next -/

/-- The scores of a level: the block of data times the level's columns of weights. -/
def scoreOp (M : ℕ) (hc : (⟨2, ![1024, M]⟩ : Shape).ShapeCasts ⟨2, ![1024, M]⟩) (x : FVec Ideal ⟨2, ![1024, 1024]⟩ .f32)
    (w : FVec Ideal ⟨2, ![1024, M]⟩ .f32) : FVec Ideal ⟨2, ![1024, M]⟩ .f32 :=
  matmul (DotDims.plain 1024 1024 M) none x (shapeCast ⟨2, ![1024, M]⟩ w hc) (constant ⟨2, ![1024, M]⟩ .f32 0x00000000#32)

/-- A score is the sum of the products along the row of data and the column of weights. -/
theorem scoreOp_apply (M : ℕ) (hc : (⟨2, ![1024, M]⟩ : Shape).ShapeCasts ⟨2, ![1024, M]⟩) (x : FVec Ideal ⟨2, ![1024, 1024]⟩ .f32)
    (w : FVec Ideal ⟨2, ![1024, M]⟩ .f32) (r : Fin 1024) (k : Fin M) :
    scoreOp M hc x w (ix2 r k) = ∑ t : Fin 1024, x (ix2 r t) * w (ix2 t k) := by
  unfold scoreOp
  rw [shapeCast_self]
  refine (Ideal.matmul_plain_apply none x w _ r k).trans ?_
  rw [constant_apply, Ideal.ofBits_zero_f32, zero_add]

/-- The next level: the level above with each parent's column copied to its children, lowered to the scores and raised to 0. -/
def levelOp (L M : ℕ) (hs : (⟨2, ![L, M]⟩ : Shape).Broadcasts ⟨2, ![L, M]⟩) (h0 : (⟨2, ![L, M]⟩ : Shape).Iotas .tc 32 [0])
    (h1 : (⟨2, ![L, M]⟩ : Shape).Iotas .tc 32 [1]) (lw mw : BitVec 32) (lvl : FVec Ideal ⟨2, ![1024, L]⟩ .f32)
    (score : FVec Ideal ⟨2, ![1024, M]⟩ .f32) : FVec Ideal ⟨2, ![1024, M]⟩ .f32 :=
  maximumf
    (minimumf
      (matmul (DotDims.plain 1024 L M) none lvl
        (select (cmpi .eq (iota .tc ⟨2, ![L, M]⟩ 32 [0] h0) (parentWords hs (iota .tc ⟨2, ![L, M]⟩ 32 [1] h1) lw mw))
          (broadcast ⟨2, ![L, M]⟩ (Scalar.ofBits (F := Ideal) .f32 0x3F800000#32))
          (broadcast ⟨2, ![L, M]⟩ (Scalar.ofBits (F := Ideal) .f32 0x00000000#32)))
        (constant ⟨2, ![1024, M]⟩ .f32 0x00000000#32))
      score)
    (broadcast ⟨2, ![1024, M]⟩ (Scalar.ofBits (F := Ideal) .f32 0x00000000#32))

/-- An entry of the next level: the parent's, lowered to the score and raised to 0, `p` being the parent's column. -/
theorem levelOp_apply (L M : ℕ) (hs : (⟨2, ![L, M]⟩ : Shape).Broadcasts ⟨2, ![L, M]⟩) (h0 : (⟨2, ![L, M]⟩ : Shape).Iotas .tc 32 [0])
    (h1 : (⟨2, ![L, M]⟩ : Shape).Iotas .tc 32 [1]) (lw mw : BitVec 32) (lvl : FVec Ideal ⟨2, ![1024, L]⟩ .f32)
    (score : FVec Ideal ⟨2, ![1024, M]⟩ .f32) (r : Fin 1024) (k : Fin M) (p : Fin L) (hL : L < 2 ^ 32)
    (hp : parentWord (BitVec.ofNat 32 k.val) lw mw = BitVec.ofNat 32 p.val) :
    levelOp L M hs h0 h1 lw mw lvl score (ix2 r k) = max (min (lvl (ix2 r p)) (score (ix2 r k))) 0 := by
  have hsel : ∀ j : Fin L,
      select (cmpi .eq (iota .tc ⟨2, ![L, M]⟩ 32 [0] h0) (parentWords hs (iota .tc ⟨2, ![L, M]⟩ 32 [1] h1) lw mw))
          (broadcast ⟨2, ![L, M]⟩ (Scalar.ofBits (F := Ideal) .f32 0x3F800000#32))
          (broadcast ⟨2, ![L, M]⟩ (Scalar.ofBits (F := Ideal) .f32 0x00000000#32)) (ix2 j k) = if j = p then (1 : EReal) else 0 := by
    intro j
    rw [select_apply, broadcast_apply, broadcast_apply]
    have e0 : iota .tc ⟨2, ![L, M]⟩ 32 [0] h0 (ix2 j k) = BitVec.ofNat 32 j.val := by
      show BitVec.ofNat 32 (0 * L + j.val) = _
      rw [Nat.zero_mul, Nat.zero_add]
    have e1 : iota .tc ⟨2, ![L, M]⟩ 32 [1] h1 (ix2 j k) = BitVec.ofNat 32 k.val := by
      show BitVec.ofNat 32 (0 * M + k.val) = _
      rw [Nat.zero_mul, Nat.zero_add]
    have ec : cmpi .eq (iota .tc ⟨2, ![L, M]⟩ 32 [0] h0) (parentWords hs (iota .tc ⟨2, ![L, M]⟩ 32 [1] h1) lw mw) (ix2 j k)
        = BitVec.ofBool (BitVec.ofNat 32 j.val == BitVec.ofNat 32 p.val) := by
      show BitVec.ofBool (iota .tc ⟨2, ![L, M]⟩ 32 [0] h0 (ix2 j k)
        == parentWords hs (iota .tc ⟨2, ![L, M]⟩ 32 [1] h1) lw mw (ix2 j k)) = _
      rw [parentWords_apply, e0, e1, hp]
    rw [ec]
    by_cases hj : j = p
    · rw [if_pos hj, hj, beq_self_eq_true]
      exact Ideal.ofBits_one_f32
    · rw [if_neg hj]
      have hne : (BitVec.ofNat 32 j.val == BitVec.ofNat 32 p.val) = false := by
        refine beq_eq_false_iff_ne.2 fun h => hj (Fin.ext ?_)
        have := congrArg BitVec.toNat h
        rw [BitVec.toNat_ofNat, BitVec.toNat_ofNat, Nat.mod_eq_of_lt (j.isLt.trans hL), Nat.mod_eq_of_lt (p.isLt.trans hL)] at this
        exact this
      rw [hne]
      exact Ideal.ofBits_zero_f32
  unfold levelOp
  rw [maximumf_apply, minimumf_apply, broadcast_apply]
  have hm : ∀ rhs : FVec Ideal ⟨2, ![L, M]⟩ .f32, (∀ j : Fin L, rhs (ix2 j k) = if j = p then (1 : EReal) else 0) →
      matmul (DotDims.plain 1024 L M) none lvl rhs (constant ⟨2, ![1024, M]⟩ .f32 0x00000000#32) (ix2 r k) = lvl (ix2 r p) := by
    intro rhs h
    refine (Ideal.matmul_plain_apply none lvl rhs _ r k).trans ?_
    rw [constant_apply, Ideal.ofBits_zero_f32, zero_add, Finset.sum_eq_single p]
    · rw [h, if_pos rfl, mul_one]
    · intro j _ hj
      rw [h, if_neg hj, mul_zero]
    · intro hn; exact absurd (Finset.mem_univ p) hn
  rw [hm _ hsel]
  exact congrArg (max _) Ideal.ofBits_zero_f32

/-- The level of `2 ^ d` nodes holds the clipped path minima of its nodes, row by row, the scores being `e`. -/
def Holds (e : Fin 1024 → ℕ → EReal) (L : ℕ) (lvl : FVec Ideal ⟨2, ![1024, L]⟩ .f32) : Prop :=
  ∀ (r : Fin 1024) (k : Fin L), lvl (ix2 r k) = Tree.clipped (e r) (L - 1 + (k.val + 1) % L)

/-- A level's array of scores holds the scores of its nodes. -/
def Scores (e : Fin 1024 → ℕ → EReal) (M : ℕ) (score : FVec Ideal ⟨2, ![1024, M]⟩ .f32) : Prop :=
  ∀ (r : Fin 1024) (k : Fin M), score (ix2 r k) = e r (M - 1 + (k.val + 1) % M)

/-- THE STEP: from a level that holds its clipped path minima, and the next level's scores, the next level holds its own. -/
theorem levelOp_holds (d : Fin 10) {L M : ℕ} (hL : L = 2 ^ d.val) (hM : M = 2 ^ (d.val + 1))
    (hs : (⟨2, ![L, M]⟩ : Shape).Broadcasts ⟨2, ![L, M]⟩) (h0 : (⟨2, ![L, M]⟩ : Shape).Iotas .tc 32 [0])
    (h1 : (⟨2, ![L, M]⟩ : Shape).Iotas .tc 32 [1]) {e : Fin 1024 → ℕ → EReal} {lvl : FVec Ideal ⟨2, ![1024, L]⟩ .f32}
    {score : FVec Ideal ⟨2, ![1024, M]⟩ .f32} (hl : Holds e L lvl) (hsc : Scores e M score) :
    Holds e M (levelOp L M hs h0 h1 (BitVec.ofNat 32 L) (BitVec.ofNat 32 M) lvl score) := by
  intro r k
  have hpow : 2 ^ d.val ≤ 2 ^ 9 := Nat.pow_le_pow_right (by norm_num) (by omega)
  have hML : M = 2 * L := by rw [hL, hM, pow_succ, Nat.mul_comm]
  have hL0 : 0 < L := by rw [hL]; exact Nat.two_pow_pos _
  have hc : (k.val + 1) % M < M := Nat.mod_lt _ (by omega)
  generalize hcl : (k.val + 1) % M = cl at hc
  have hw := parentWord_eq d ⟨k.val, by rw [← hM]; exact k.isLt⟩
  simp only [← hL, ← hM, hcl] at hw
  rw [levelOp_apply L M hs h0 h1 _ _ lvl score r k ⟨(cl / 2 + (L - 1)) % L, Nat.mod_lt _ hL0⟩ (by omega) hw, hl, hsc, hcl,
    Tree.clipped_pos (e r) (n := M - 1 + cl) (by omega)]
  have hpar : L - 1 + ((cl / 2 + (L - 1)) % L + 1) % L = (M - 1 + cl - 1) / 2 := by
    have h2 : cl / 2 < L := by omega
    have h3 : ((cl / 2 + (L - 1)) % L + 1) % L = cl / 2 := by
      rw [Nat.mod_add_mod, show cl / 2 + (L - 1) + 1 = cl / 2 + L from by omega, Nat.add_mod_right, Nat.mod_eq_of_lt h2]
    omega
  rw [hpar]

end Cert.Level

end
-- ==== Proof.Body.lean ====
/-
  What one run of the kernel's body leaves in its block of the output: at row `r` and column `n`, the clipped path minimum
  of node `n` of the tree, for the scores of row `r`.

  Each level's array is `Level.levelOp` of the one above and of its scores, so each holds its clipped path minima by
  `Level.levelOp_holds`, ten times. The array of a level is stored in two pieces — its last column, which is the level's first
  node, and the other columns behind it — and both pieces land where their nodes' columns are.
-/
module

public import proofs.«01_k».proof.Proof.Gen.KernelIdeal.Frame
public import proofs.«01_k».proof.Proof.Level
public import Idealize.ShloMosaic.Lib.WholeRead
public import Idealize.ShloMosaic.Lib.Writes

@[expose] public section

noncomputable section

namespace Cert.Body

open Cert.KernelIdeal Cert.KernelIdeal.Gen Idealize.ShloMosaic Idealize.ShloMosaic.TcCoe Idealize.ShloMosaic.ValueIdx Cert.Level
open scoped BigOperators

/-- An output block that holds the clipped path minimum of every node. -/
def goal (e : Fin 1024 → ℕ → EReal) : FVec Ideal S1024x2047 .f32 := fun y => Tree.clipped (e (y 0)) (y 1).val

/-- The last column of a level lands at the level's first node. -/
theorem last_column {e : Fin 1024 → ℕ → EReal} {M : ℕ} (hM : 0 < M) {lvl : FVec Ideal ⟨2, ![1024, M]⟩ .f32} (hl : Holds e M lvl)
    (hs : (⟨2, ![1024, M]⟩ : Shape).Slices ![0, M - 1] ⟨2, ![1024, 1]⟩)
    (inb : ∀ a : Fin 2, (![0, M - 1] : Fin 2 → ℕ) a + (![1024, 1] : Fin 2 → ℕ) a ≤ S1024x2047.size a)
    (x : (⟨2, ![1024, 1]⟩ : Shape).Idx) :
    extractStridedSlice ⟨2, ![1024, 1]⟩ ![0, M - 1] lvl hs x
      = goal e ((Rect.unit (s := S1024x2047) ![0, M - 1] ![1024, 1] inb).emb x) := by
  obtain ⟨r, j, rfl⟩ : ∃ (r : Fin 1024) (j : Fin 1), x = ix2 r j := ⟨x 0, x 1, eq_ix2 x⟩
  have hj : j.val = 0 := by omega
  rw [slice2_axis1_apply (M - 1) lvl hs r j ⟨M - 1, by omega⟩ (by simp [hj]), hl]
  have e0 : ((Rect.unit (s := S1024x2047) ![0, M - 1] ![1024, 1] inb).emb (ix2 r j) 0) = r :=
    Fin.ext (by show 0 + 1 * r.val = r.val; omega)
  have e1 : ((Rect.unit (s := S1024x2047) ![0, M - 1] ![1024, 1] inb).emb (ix2 r j) 1).val = M - 1 := by
    show M - 1 + 1 * j.val = M - 1; omega
  unfold goal
  rw [e0, e1]
  congr 1
  show M - 1 + (M - 1 + 1) % M = M - 1
  rw [show M - 1 + 1 = M from by omega, Nat.mod_self, Nat.add_zero]

/-- The other columns of a level land at the level's other nodes. -/
theorem other_columns {e : Fin 1024 → ℕ → EReal} {M W : ℕ} (hM : M = W + 1) {lvl : FVec Ideal ⟨2, ![1024, M]⟩ .f32}
    (hl : Holds e M lvl) (hs : (⟨2, ![1024, M]⟩ : Shape).Slices ![0, 0] ⟨2, ![1024, W]⟩)
    (inb : ∀ a : Fin 2, (![0, M] : Fin 2 → ℕ) a + (![1024, W] : Fin 2 → ℕ) a ≤ S1024x2047.size a)
    (x : (⟨2, ![1024, W]⟩ : Shape).Idx) :
    extractStridedSlice ⟨2, ![1024, W]⟩ ![0, 0] lvl hs x
      = goal e ((Rect.unit (s := S1024x2047) ![0, M] ![1024, W] inb).emb x) := by
  obtain ⟨r, j, rfl⟩ : ∃ (r : Fin 1024) (j : Fin W), x = ix2 r j := ⟨x 0, x 1, eq_ix2 x⟩
  rw [slice2_axis1_apply 0 lvl hs r j ⟨j.val, by omega⟩ (by simp), hl]
  have e0 : ((Rect.unit (s := S1024x2047) ![0, M] ![1024, W] inb).emb (ix2 r j) 0) = r :=
    Fin.ext (by show 0 + 1 * r.val = r.val; omega)
  have e1 : ((Rect.unit (s := S1024x2047) ![0, M] ![1024, W] inb).emb (ix2 r j) 1).val = M + j.val := by
    show M + 1 * j.val = M + j.val; omega
  unfold goal
  rw [e0, e1]
  congr 1
  show M - 1 + (j.val + 1) % M = M + j.val
  rw [Nat.mod_eq_of_lt (by omega)]
  omega

variable (c : Dev nD) (i : grid0.Coords) (arg1 : Memref sig .tc .vmem S1024x1024 .f32) (harg1 : arg1.IsWhole)
  (arg2 : Memref sig .tc .vmem S1024x2048 .f32) (harg2 : arg2.IsWhole) (arg3 : Memref sig .tc .vmem S1024x2047 .f32)
  (harg3 : arg3.IsWhole) (x0 : Vec Ideal S1024x1024 .f32) (x1 : Vec Ideal S1024x2048 .f32) (e : Fin 1024 → ℕ → EReal)

/-- The weights' block holds, from column `M` on, the weights of the level of `M` nodes, in the level's own order of columns:
    the data times those columns are the scores `e`. -/
def Weighs : Prop := ∀ (d : Fin 10) (r : Fin 1024) (k : Fin (2 ^ (d.val + 1))) (n : Fin 2048), n.val = 2 ^ (d.val + 1) + k.val →
  ∑ t : Fin 1024, x0 (ix2 r t) * x1 (ix2 t n) = e r (2 ^ (d.val + 1) - 1 + (k.val + 1) % 2 ^ (d.val + 1))

variable {e x0 x1}

/-- The scores of each level, as the body loads the data and the level's columns of weights, are those of its nodes. -/
theorem scores_hold (d : Fin 10) {M : ℕ} (hM : M = 2 ^ (d.val + 1)) (hw : Weighs x0 x1 e)
    (hc : (⟨2, ![1024, M]⟩ : Shape).ShapeCasts ⟨2, ![1024, M]⟩)
    (inb0 : ∀ a : Fin 2, (![0, 0] : Fin 2 → ℕ) a + S1024x1024.size a ≤ S1024x1024.size a)
    (inb : ∀ a : Fin 2, (![0, M] : Fin 2 → ℕ) a + (![1024, M] : Fin 2 → ℕ) a ≤ S1024x2048.size a) :
    Scores e M (scoreOp M hc
      (View.readAt (Elt Ideal) arg1.view (Rect.unit (s := S1024x1024) ![0, 0] S1024x1024.size inb0).toLoadRect (harg1.unread x0))
      (View.readAt (Elt Ideal) arg2.view (Rect.unit (s := S1024x2048) ![0, M] ![1024, M] inb).toLoadRect (harg2.unread x1))) := by
  intro r k
  have hM9 : 2 ^ (d.val + 1) ≤ 2 ^ 10 := Nat.pow_le_pow_right (by norm_num) (by omega)
  subst hM
  rw [scoreOp_apply, ← hw d r k ⟨2 ^ (d.val + 1) + k.val, by omega⟩ rfl]
  refine Finset.sum_congr rfl fun t _ => ?_
  refine congrArg₂ (· * ·) ((harg1.readAt_unread x0 (Rect.unit (s := S1024x1024) ![0, 0] S1024x1024.size inb0).toLoadRect (ix2 r t)).trans (congrArg x0 ?_))
    ((harg2.readAt_unread x1
      (Rect.unit (s := S1024x2048) ![0, 2 ^ (d.val + 1)] ![1024, 2 ^ (d.val + 1)] inb).toLoadRect (ix2 t k)).trans (congrArg x1 ?_))
  · refine funext fun a => Fin.ext ?_
    match a with
    | ⟨0, _⟩ => show 0 + 1 * r.val = r.val; omega
    | ⟨1, _⟩ => show 0 + 1 * t.val = t.val; omega
  · refine funext fun a => Fin.ext ?_
    match a with
    | ⟨0, _⟩ => show 0 + 1 * t.val = t.val; omega
    | ⟨1, _⟩ => show 2 ^ (d.val + 1) + 1 * k.val = 2 ^ (d.val + 1) + k.val; omega

/-- The root's level holds its clipped path minimum, 1. -/
theorem root_holds (e : Fin 1024 → ℕ → EReal) : Holds e 1 (k0_pay2 (F := Ideal)) := fun r k => by
  have hk : k.val = 0 := by omega
  rw [hk, Tree.clipped]
  exact Ideal.ofBits_one_f32

/-- The first column of the output is the root's. -/
theorem first_column (e : Fin 1024 → ℕ → EReal)
    (inb : ∀ a : Fin 2, (![0, 0] : Fin 2 → ℕ) a + (![1024, 1] : Fin 2 → ℕ) a ≤ S1024x2047.size a)
    (x : (⟨2, ![1024, 1]⟩ : Shape).Idx) :
    k0_pay1 (F := Ideal) x = goal e ((Rect.unit (s := S1024x2047) ![0, 0] ![1024, 1] inb).emb x) := by
  obtain ⟨r, j, rfl⟩ : ∃ (r : Fin 1024) (j : Fin 1), x = ix2 r j := ⟨x 0, x 1, eq_ix2 x⟩
  have e1 : ((Rect.unit (s := S1024x2047) ![0, 0] ![1024, 1] inb).emb (ix2 r j) 1).val = 0 := by
    show 0 + 1 * j.val = 0; omega
  unfold goal
  rw [e1, Tree.clipped]
  exact Ideal.ofBits_one_f32

/-- What the body leaves in its block of the output: at each row and column, the clipped path minimum of the column's node. -/
theorem out_eq (hw : Weighs x0 x1 e) (y : S1024x2047.Idx) :
    out0_A_2 (F := Ideal) c i arg1 harg1 arg2 harg2 arg3 harg3 x0 x1 y = goal e y := by
  have h1 : Holds e 2 (kernelRun0_A.sl.r_2 c arg1 harg1 arg2 harg2 x0 x1) :=
    levelOp_holds 0 rfl rfl _ _ _ (root_holds e) (scores_hold arg1 harg1 arg2 harg2 0 rfl hw _ _ _)
  have h2 : Holds e 4 (kernelRun0_A.sl.r_5 c arg1 harg1 arg2 harg2 x0 x1) :=
    levelOp_holds 1 rfl rfl _ _ _ h1 (scores_hold arg1 harg1 arg2 harg2 1 rfl hw _ _ _)
  have h3 : Holds e 8 (kernelRun0_A.sl.r_7 c arg1 harg1 arg2 harg2 x0 x1) :=
    levelOp_holds 2 rfl rfl _ _ _ h2 (scores_hold arg1 harg1 arg2 harg2 2 rfl hw _ _ _)
  have h4 : Holds e 16 (kernelRun0_A.sl.r_9 c arg1 harg1 arg2 harg2 x0 x1) :=
    levelOp_holds 3 rfl rfl _ _ _ h3 (scores_hold arg1 harg1 arg2 harg2 3 rfl hw _ _ _)
  have h5 : Holds e 32 (kernelRun0_A.sl.r_11 c arg1 harg1 arg2 harg2 x0 x1) :=
    levelOp_holds 4 rfl rfl _ _ _ h4 (scores_hold arg1 harg1 arg2 harg2 4 rfl hw _ _ _)
  have h6 : Holds e 64 (kernelRun0_A.sl.r_13 c arg1 harg1 arg2 harg2 x0 x1) :=
    levelOp_holds 5 rfl rfl _ _ _ h5 (scores_hold arg1 harg1 arg2 harg2 5 rfl hw _ _ _)
  have h7 : Holds e 128 (kernelRun0_A.sl.r_15 c arg1 harg1 arg2 harg2 x0 x1) :=
    levelOp_holds 6 rfl rfl _ _ _ h6 (scores_hold arg1 harg1 arg2 harg2 6 rfl hw _ _ _)
  have h8 : Holds e 256 (kernelRun0_A.sl.r_18 c arg1 harg1 arg2 harg2 x0 x1) :=
    levelOp_holds 7 rfl rfl _ _ _ h7 (scores_hold arg1 harg1 arg2 harg2 7 rfl hw _ _ _)
  have h9 : Holds e 512 (kernelRun0_A.sl.r_20 c arg1 harg1 arg2 harg2 x0 x1) :=
    levelOp_holds 8 rfl rfl _ _ _ h8 (scores_hold arg1 harg1 arg2 harg2 8 rfl hw _ _ _)
  have h10 : Holds e 1024 (k0_pay72 (kernelRun0_A.sl.r_20 c arg1 harg1 arg2 harg2 x0 x1) (kernelRun0_A.sl.r_21 c arg1 harg1 arg2 harg2 x0 x1) kernelRun0_A.sl.v700
      (subi kernelRun0_A.sl.v743 kernelRun0_A.sl.v702) 512#32 0#32) :=
    levelOp_holds 9 rfl rfl _ _ _ h9 (scores_hold arg1 harg1 arg2 harg2 9 rfl hw _ _ _)
  unfold out0_A_2
  refine View.read_writes_apply_of_pieces _ _ (goal e) _ ?_ y (cover0_A_2 c i arg1 harg1 arg2 harg2 arg3 harg3 x0 x1 y)
  unfold kernelRun0_A
  dsimp only
  refine List.forall_mem_cons.2 ⟨fun x => last_column (M := 1024) (by decide) h10 slices_S1024x1024_o0_1023_S1024x1
    inb_S1024x2047_S1024x1_0_1023 x, ?_⟩
  refine List.forall_mem_cons.2 ⟨fun x => other_columns (M := 1024) rfl h10 slices_S1024x1024_o0_0_S1024x1023
    inb_S1024x2047_S1024x1023_0_1024 x, ?_⟩
  refine List.forall_mem_cons.2 ⟨fun x => last_column (M := 512) (by decide) h9 slices_S1024x512_o0_511_S1024x1
    inb_S1024x2047_S1024x1_0_511 x, ?_⟩
  refine List.forall_mem_cons.2 ⟨fun x => other_columns (M := 512) rfl h9 slices_S1024x512_o0_0_S1024x511
    inb_S1024x2047_S1024x511_0_512 x, ?_⟩
  refine List.forall_mem_cons.2 ⟨fun x => last_column (M := 256) (by decide) h8 slices_S1024x256_o0_255_S1024x1
    inb_S1024x2047_S1024x1_0_255 x, ?_⟩
  refine List.forall_mem_cons.2 ⟨fun x => other_columns (M := 256) rfl h8 slices_S1024x256_o0_0_S1024x255
    inb_S1024x2047_S1024x255_0_256 x, ?_⟩
  refine List.forall_mem_cons.2 ⟨fun x => last_column (M := 128) (by decide) h7 slices_S1024x128_o0_127_S1024x1
    inb_S1024x2047_S1024x1_0_127 x, ?_⟩
  refine List.forall_mem_cons.2 ⟨fun x => other_columns (M := 128) rfl h7 slices_S1024x128_o0_0_S1024x127
    inb_S1024x2047_S1024x127_0_128 x, ?_⟩
  refine List.forall_mem_cons.2 ⟨fun x => last_column (M := 64) (by decide) h6 slices_S1024x64_o0_63_S1024x1
    inb_S1024x2047_S1024x1_0_63 x, ?_⟩
  refine List.forall_mem_cons.2 ⟨fun x => other_columns (M := 64) rfl h6 slices_S1024x64_o0_0_S1024x63
    inb_S1024x2047_S1024x63_0_64 x, ?_⟩
  refine List.forall_mem_cons.2 ⟨fun x => last_column (M := 32) (by decide) h5 slices_S1024x32_o0_31_S1024x1
    inb_S1024x2047_S1024x1_0_31 x, ?_⟩
  refine List.forall_mem_cons.2 ⟨fun x => other_columns (M := 32) rfl h5 slices_S1024x32_o0_0_S1024x31
    inb_S1024x2047_S1024x31_0_32 x, ?_⟩
  refine List.forall_mem_cons.2 ⟨fun x => last_column (M := 16) (by decide) h4 slices_S1024x16_o0_15_S1024x1
    inb_S1024x2047_S1024x1_0_15 x, ?_⟩
  refine List.forall_mem_cons.2 ⟨fun x => other_columns (M := 16) rfl h4 slices_S1024x16_o0_0_S1024x15
    inb_S1024x2047_S1024x15_0_16 x, ?_⟩
  refine List.forall_mem_cons.2 ⟨fun x => last_column (M := 8) (by decide) h3 slices_S1024x8_o0_7_S1024x1
    inb_S1024x2047_S1024x1_0_7 x, ?_⟩
  refine List.forall_mem_cons.2 ⟨fun x => other_columns (M := 8) rfl h3 slices_S1024x8_o0_0_S1024x7
    inb_S1024x2047_S1024x7_0_8 x, ?_⟩
  refine List.forall_mem_cons.2 ⟨fun x => last_column (M := 4) (by decide) h2 slices_S1024x4_o0_3_S1024x1
    inb_S1024x2047_S1024x1_0_3 x, ?_⟩
  refine List.forall_mem_cons.2 ⟨fun x => other_columns (M := 4) rfl h2 slices_S1024x4_o0_0_S1024x3
    inb_S1024x2047_S1024x3_0_4 x, ?_⟩
  refine List.forall_mem_cons.2 ⟨fun x => last_column (M := 2) (by decide) h1 slices_S1024x2_o0_1_S1024x1
    inb_S1024x2047_S1024x1_0_1 x, ?_⟩
  refine List.forall_mem_cons.2 ⟨fun x => other_columns (M := 2) rfl h1 slices_S1024x2_o0_0_S1024x1
    inb_S1024x2047_S1024x1_0_2 x, ?_⟩
  refine List.forall_mem_cons.2 ⟨fun x => first_column e inb_S1024x2047_S1024x1_0_0 x, ?_⟩
  exact fun p hp => absurd hp List.not_mem_nil

end Cert.Body

end
-- ==== Proof.Weights.lean ====
/-
  The columns the kernel multiplies the data by: column 2 · 2^d + k holds the parameters of the split node above the node
  that place k of level d stands for, negated where that node is a right child. They are a gather of the parameters' rows
  by a table of row numbers, times a table of signs; both tables are literals of the program, checked against their
  closed form here once for all levels.
-/
module

public import proofs.«01_k».proof.Proof.Body
public import proofs.«01_k».proof.Proof.Columns
public import proofs.«01_k».proof.Proof.Scores
public import Idealize.ShloMosaic.Lib.Routing.Ops
public import Idealize.ShloMosaic.Lib.ValueLayout

@[expose] public section

noncomputable section

namespace Cert.Weights

open Cert.KernelIdeal Cert.KernelIdeal.Gen Idealize.ShloMosaic Idealize.ShloMosaic.ValueIdx Idealize.ShloMosaic.TcCoe
  Idealize.ShloMosaic.StableHlo
open scoped BigOperators

/-! ## The two tables -/

/-- The table of row numbers: at place `k` of level `d`, the split node above the node the place stands for. -/
theorem rows_table : ∀ (d : Fin 10) (k : Fin (2 ^ (d.val + 1))),
    lit0t (2 ^ (d.val + 1) + k.val) = BitVec.ofNat 32 (2 ^ d.val - 1 + (k.val + 1) % 2 ^ (d.val + 1) / 2) := by
  decide +kernel

/-- The table of signs: at place `k` of level `d`, one for a left child and minus one for a right child. -/
theorem signs_table : ∀ (d : Fin 10) (k : Fin (2 ^ (d.val + 1))),
    lit1t (2 ^ (d.val + 1) + k.val) = if (k.val + 1) % 2 ^ (d.val + 1) % 2 = 0 then 0x3F800000#32 else 0xBF800000#32 := by
  decide +kernel

/-- The second sign, as a number. -/
theorem minus_one : (FloatOps.ofBits (F := Ideal) .f32 0xBF800000#32 : EReal) = -1 := by
  show Ideal.ofBits .f32 0xBF800000#32 = -1
  rw [show (-1 : EReal) = ((-(1 : ℝ) : ℝ) : EReal) by rw [EReal.coe_neg, EReal.coe_one]]
  simp [Ideal.ofBits, Ideal.ieee, -EReal.coe_mul, -EReal.coe_neg]
  norm_num

/-! ## The columns -/

/-- The columns as the host operations before the kernel's region compute them from the parameters. -/
abbrev columns (a : FVec Ideal S1023x1024 .f32) : FVec Ideal S1024x2048 .f32 :=
  transpose S1024x2048 [1, 0]
    (mulf
      (Host.gather gather_S1023x1024_S2048x1_S2048x1024_1_0_n_n_0_1_11024 a
        (broadcastInDim S2048x1 ![0] bcast_S2048_S2048x1_0
          (select (constantI S2048 1 0#1)
            (addi (fun i => lit0 (S2048.rowMajor i)) (broadcastInDim S2048 ![] bcast_S_S2048 (constantI S_ 32 1023#32)))
            (fun i => lit0 (S2048.rowMajor i)))))
      (broadcastInDim S2048x1024 ![0, 1] bcast_S2048x1_S2048x1024_0_1
        (broadcastInDim S2048x1 ![0] bcast_S2048_S2048x1_0 (fun i => FloatOps.ofBits (F := Ideal) .f32 (lit1 (S2048.rowMajor i))))))
    transposes_S2048x1024_S1024x2048_1_0

/-- The array the second input window reads holds these columns when the region is entered. -/
theorem columns_held (m : (ℓ : Loc nD τ sig) → Buf (Elt Ideal) ℓ) (c : Dev nD) :
    V m c main_call0_v8 = columns (m ((c : Thread nD τ).loc main_arg1)) := by
  unfold V
  simp only [hostOps0]
  after_results_simp
  all_goals rfl

/-- One entry of a column: the parameter of the row the table names, times the sign the table names. -/
theorem columns_apply (a : FVec Ideal S1023x1024 .f32) (t : Fin 1024) (n : Fin 2048) (b : Fin 1023)
    (hb : lit0t n.val = BitVec.ofNat 32 b.val) :
    columns a (ix2 t n) = a (ix2 b t) * FloatOps.ofBits (F := Ideal) .f32 (lit1t n.val) := by
  have hr : ∀ i : Fin 2048, (S2048.rowMajor (ix1 i)).val = i.val := fun i => Shape.rowMajor_val_one _
  have h2 : ∀ (v : FVec Ideal S2048x1 .f32), broadcastInDim S2048x1024 ![0, 1] bcast_S2048x1_S2048x1024_0_1 v (ix2 n t) = v (ix2 n (0 : Fin 1)) := fun v => by
    unfold broadcastInDim
    refine congrArg v (funext fun a => ?_)
    match a with
    | ⟨0, _⟩ => rfl
    | ⟨1, _⟩ => rfl
  refine (transpose_ix2_apply _ _ t n).trans ?_
  rw [mulf_apply, h2, Columns.column_apply]
  have hl : ∀ i : Fin 2048, lit1 (S2048.rowMajor (ix1 i)) = lit1t i.val := fun i => congrArg lit1t (hr i)
  rw [hl]
  refine congrArg (· * _) (Routing.gather_row _ rfl rfl rfl rfl rfl a _ n t b ?_ (by decide))
  rw [Columns.column_apply]
  exact (congrArg lit0t (hr n)).trans hb

/-- So the products with the columns are the scores, where neither the data nor the parameters hold an infinity. -/
theorem weighs (x : FVec Ideal ⟨2, ![8192, 1024]⟩ .f32) (a : FVec Ideal ⟨2, ![1023, 1024]⟩ .f32) (hx : ∀ i, x i ≠ ⊤ ∧ x i ≠ ⊥)
    (ha : ∀ i, a i ≠ ⊤ ∧ a i ≠ ⊥) (row : Fin 1024 → Fin 8192) (x0 : FVec Ideal S1024x1024 .f32) (x1 : FVec Ideal S1024x2048 .f32)
    (h0 : ∀ r t, x0 (ix2 r t) = x (ix2 (row r) t)) (h1 : x1 = columns a) :
    Body.Weighs x0 x1 fun r => Scores.edge x a (row r) := by
  subst h1
  intro d r k n hn
  have hp : 2 ^ (d.val + 1) = 2 * 2 ^ d.val := pow_succ' 2 d.val
  have hw : 2 ^ d.val ≤ 512 := le_trans (Nat.pow_le_pow_right (by decide) (show d.val ≤ 9 by omega)) (by decide)
  have hw0 : 0 < 2 ^ d.val := Nat.pos_of_ne_zero (by positivity)
  have hc := Nat.mod_lt (k.val + 1) (show 0 < 2 ^ (d.val + 1) by omega)
  have hrow := rows_table d k
  have hsign := signs_table d k
  rw [← hn] at hrow hsign
  generalize hcl : (k.val + 1) % 2 ^ (d.val + 1) = cl at hc hrow hsign ⊢
  have hlt : 2 ^ d.val - 1 + cl / 2 < 1023 := by omega
  have hnode : (2 ^ (d.val + 1) - 1 + cl - 1) / 2 = 2 ^ d.val - 1 + cl / 2 := by omega
  rw [Finset.sum_congr rfl fun t _ => by rw [h0, columns_apply a t n ⟨_, hlt⟩ hrow, hsign]]
  unfold Scores.edge Scores.split
  beta_reduce
  rw [hnode, dif_pos hlt]
  by_cases he : cl % 2 = 0
  · rw [if_pos he, if_pos (show (2 ^ (d.val + 1) - 1 + cl) % 2 = 1 by omega)]
    refine Finset.sum_congr rfl fun t _ => congrArg _ ?_
    exact (congrArg _ Ideal.ofBits_one_f32).trans (mul_one _)
  · rw [if_neg he, if_neg (show ¬(2 ^ (d.val + 1) - 1 + cl) % 2 = 1 by omega), minus_one]
    exact Scores.sum_mul_neg _ _ (fun t => hx _) fun t => ha _

end Cert.Weights

end
-- ==== Proof.Result.lean ====
/-
  What the kernel leaves in its result array: the eight grid points write eight blocks of 1024 rows, each the clipped path
  minima of its rows' scores, and the blocks cover the array.
-/
module

public import proofs.«01_k».proof.Proof.Gen.KernelIdeal.Value
public import proofs.«01_k».proof.Proof.Weights

@[expose] public section

noncomputable section

namespace Cert.Result

open Cert.KernelIdeal Cert.KernelIdeal.Gen Idealize.ShloMosaic Idealize.ShloMosaic.ValueIdx Idealize.ShloMosaic.TcCoe
open scoped BigOperators

variable (m : (ℓ : Loc nD τ sig) → Buf (Elt Ideal) ℓ) (c : Dev nD)

/-- The data, and the split parameters, as the kernel finds them. -/
abbrev data : FVec Ideal S8192x1024 .f32 := m ((c : Thread nD τ).loc main_arg0)
abbrev params : FVec Ideal S1023x1024 .f32 := m ((c : Thread nD τ).loc main_arg1)

/-- Row `r` of block `t`, in the whole array. -/
abbrev row (t : Fin cfg0.N) (r : Fin 1024) : Fin 8192 :=
  ⟨t.val * 1024 + r.val, by have h : t.val < 8 := t.isLt; have := r.isLt; omega⟩

/-- Where each window's block sits: the data's and the result's at its own block of rows, the columns' always at the start. -/
theorem places : ∀ t : Fin cfg0.N, (win0_0.index t (0 : Fin 2) = t.val ∧ win0_0.index t (1 : Fin 2) = 0)
    ∧ (win0_1.index t (0 : Fin 2) = 0 ∧ win0_1.index t (1 : Fin 2) = 0) ∧ win0_2.index t (0 : Fin 2) = t.val ∧ win0_2.index t (1 : Fin 2) = 0 :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0) ∧ win0_2.index t (0 : Fin 2) = t.val ∧ win0_2.index t (1 : Fin 2) = 0)

/-- The block of the data at a grid point: rows of the data. -/
theorem block_data (t : Fin cfg0.N) (r k : Fin 1024) : (iblk m c 0 t : FVec Ideal S1024x1024 .f32) (ix2 r k) = data m c (ix2 (row t r) k) := by
  show V m c main_arg0 (((cfg0.win 0).blk t).view.emb (ix2 r k)) = _
  rw [V_main_arg0]
  refine congrArg (data m c) (funext fun a => Fin.ext ?_)
  obtain ⟨⟨e0, e1⟩, -, -, -⟩ := places t
  match a with
  | ⟨0, _⟩ => show win0_0.index t (0 : Fin 2) * 1024 + 1 * r.val = t.val * 1024 + r.val; omega
  | ⟨1, _⟩ => show win0_0.index t (1 : Fin 2) * 1024 + 1 * k.val = k.val; omega

/-- The block of the columns at a grid point: all of them. -/
theorem block_columns (t : Fin cfg0.N) : (iblk m c 1 t : FVec Ideal S1024x2048 .f32) = Weights.columns (params m c) := by
  rw [← Weights.columns_held m c]
  funext y
  show V m c main_call0_v8 (((cfg0.win 1).blk t).view.emb y) = V m c main_call0_v8 y
  refine congrArg (V m c main_call0_v8) (funext fun a => Fin.ext ?_)
  obtain ⟨-, ⟨e0, e1⟩, -, -⟩ := places t
  match a with
  | ⟨0, _⟩ => show win0_1.index t (0 : Fin 2) * 1024 + 1 * (y 0).val = (y 0).val; omega
  | ⟨1, _⟩ => show win0_1.index t (1 : Fin 2) * 2048 + 1 * (y 1).val = (y 1).val; omega

/-- The result at row `r` and node `n`, from the data and the parameters. -/
def paths (x : FVec Ideal ⟨2, ![8192, 1024]⟩ .f32) (a : FVec Ideal ⟨2, ![1023, 1024]⟩ .f32) : FVec Ideal ⟨2, ![8192, 2047]⟩ .f32 :=
  fun y => Tree.clipped (Scores.edge x a (y 0)) (y 1).val

/-- The result array after the run, where neither the data nor the parameters hold an infinity. -/
theorem array_eq (hx : ∀ i, data m c i ≠ ⊤ ∧ data m c i ≠ ⊥) (ha : ∀ i, params m c i ≠ ⊤ ∧ params m c i ≠ ⊥) :
    ((dats m 0 c).arrAt 2 cfg0.N : FVec Ideal S8192x2047 .f32) = paths (data m c) (params m c) := by
  funext y
  have hy : (y 0).val < 8192 := (y 0).isLt
  let t : Fin cfg0.N := (⟨(y 0).val / 1024, by omega⟩ : Fin 8)
  let r : Fin 1024 := ⟨(y 0).val % 1024, by omega⟩
  have hplace : ((cfg0.win 2).blk t).view.emb (ix2 r (y 1)) = y := funext fun a => Fin.ext (by
    obtain ⟨-, -, e0, e1⟩ := places t
    match a with
    | ⟨0, _⟩ =>
      show win0_2.index t (0 : Fin 2) * 1024 + 1 * ((y 0).val % 1024) = (y 0).val
      have : t.val = (y 0).val / 1024 := rfl
      omega
    | ⟨1, _⟩ => show win0_2.index t (1 : Fin 2) * 2047 + 1 * (y 1).val = (y 1).val; omega)
  have b := congrFun (Value.blocks2 m c t (flush0_2 t)) (ix2 r (y 1))
  rw [Value.flushed2_A] at b
  have b' : (dats m 0 c).arrAt 2 cfg0.N (((cfg0.win 2).blk t).view.emb (ix2 r (y 1))) = _ := b
  rw [hplace] at b'
  refine b'.trans ?_
  refine (Body.out_eq c _ _ _ _ _ _ _ (Weights.weighs (data m c) (params m c) hx ha (row t) _ _ (block_data m c t)
    (block_columns m c t)) (ix2 r (y 1))).trans ?_
  unfold Body.goal paths
  refine congrArg₂ (fun s n => Tree.clipped (Scores.edge (data m c) (params m c) s) n) (Fin.ext ?_) rfl
  show (y 0).val / 1024 * 1024 + (y 0).val % 1024 = (y 0).val
  omega

end Cert.Result

end
-- ==== Proof.lean ====
/-
  The kernel is correct: run at exact arithmetic on data and split parameters without infinities, it leaves in its result
  array what the reference leaves, and kernel and reference both leave their arguments as they were and every semaphore
  at zero.

  Both sides are set beside one function, `Result.paths`: at row r and node n, the smallest score on the path from the
  root to node n, at most 1, and 0 if that is negative. `Result.array_eq` says the kernel computes it, level by level and
  clipping at every level; `Reference.result_apply` says the reference does, by ten rounds over the whole tree and one
  clamp at the end.
-/
module

public import proofs.«01_k».proof.Proof.Gen.KernelIdeal.Value
public import proofs.«01_k».proof.Proof.Gen.ReferenceIdeal.Run
public import proofs.«01_k».proof.Defs
public import proofs.«01_k».proof.Proof.Finite
public import proofs.«01_k».proof.Proof.Reference
public import proofs.«01_k».proof.Proof.Result
public import proofs.«01_k».proof.Proof.Gen.Pre_finite
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The reference runs, leaves its arguments as they were and ends with every semaphore counter at zero (it has none). -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run m ρ)

/-- On arguments without infinities, kernel and reference leave the same result. -/
theorem same_result : Cert.algebraic_KernelIdeal_ReferenceIdeal_pre_finite := by
  intro m g m' g' hpre hargs
  refine ⟨fun c => Result.paths (Result.data m c) (Result.params m c), ?_, ?_⟩
  · refine (θ_run Cert.KernelIdeal.defs _ _).mono (fun r h c => ⟨(h c).1.trans ?_, (h c).2⟩) (Cert.KernelIdeal.Value.run_blocks m g)
    obtain ⟨hx, ha⟩ := Finite.entries _ _ (hpre c)
    exact Result.array_eq m c hx ha
  · refine (θ_run Cert.ReferenceIdeal.defs _ _).mono (fun r h c => ⟨(h c).1.trans ?_, (h c).2⟩) (Cert.ReferenceIdeal.Value.run m' g')
    refine (Cert.ReferenceIdeal.Value.val11_main_v497 (StableHlo.launchContents m' c)).symm.trans ?_
    refine Eq.trans ?_ (congrArg₂ Result.paths (hargs c).1 (hargs c).2)
    funext y
    refine (congrArg _ (ValueIdx.eq_ix2 y)).trans ?_
    exact Reference.result_apply (StableHlo.launchContents m' c) (y 0) (y 1)

/-- Every claim of this certificate. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    trivial,
    same_result⟩

end Cert.Proof

end
